-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular_and_finite [hPre_regular_and_finite : Cert.Pre_regular_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_regular_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular_and_finite [hPre_regular_and_finite : Cert.Pre_regular_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_regular_and_finite [hKernelIdeal : Cert.KernelIdeal.Facts] [hPre_regular_and_finite : Cert.Pre_regular_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_regular_and_finite [hReferenceIdeal : Cert.ReferenceIdeal.Facts] [hPre_regular_and_finite : Cert.Pre_regular_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_regular_and_finite [hKernelIdeal : Cert.KernelIdeal.Facts] [hReferenceIdeal : Cert.ReferenceIdeal.Facts] [hPre_regular_and_finite : Cert.Pre_regular_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_regular_and_finite : Cert.Pre_regular_and_finite.Facts),
    quiescent_Kernel (hKernel := hKernel)
    ∧ quiescent_KernelIdeal (hKernelIdeal := hKernelIdeal)
    ∧ quiescent_KernelIdeal_pre_regular_and_finite (hKernelIdeal := hKernelIdeal) (hPre_regular_and_finite := hPre_regular_and_finite)
    ∧ quiescent_ReferenceIdeal (hReferenceIdeal := hReferenceIdeal)
    ∧ quiescent_ReferenceIdeal_pre_regular_and_finite (hReferenceIdeal := hReferenceIdeal) (hPre_regular_and_finite := hPre_regular_and_finite)
    ∧ preserves_Kernel_KernelIdeal
    ∧ algebraic_KernelIdeal_ReferenceIdeal_pre_regular_and_finite (hKernelIdeal := hKernelIdeal) (hReferenceIdeal := hReferenceIdeal) (hPre_regular_and_finite := hPre_regular_and_finite)
-- ==== Pre_regular_and_finite.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S256x128 : Shape := ⟨2, ![256, 128]⟩
abbrev S2x160000 : Shape := ⟨2, ![2, 160000]⟩
abbrev S10000x16 : Shape := ⟨2, ![10000, 16]⟩
abbrev S_ : Shape := ⟨0, ![]⟩
abbrev S1x160000 : Shape := ⟨2, ![1, 160000]⟩
abbrev S160000 : Shape := ⟨1, ![160000]⟩

class Facts : Prop where
  bcast_S_S10000x16 : S_.BroadcastsInDim S10000x16 (![] : Fin 0 → Fin S10000x16.rank)
  slices_S2x160000_S1x160000_0_0 : S2x160000.Slices ![0, 0] S1x160000
  shapeCasts_S1x160000_S160000 : S1x160000.ShapeCasts S160000
  shapeCasts_S160000_S10000x16 : S160000.ShapeCasts S10000x16
  reducesTo_S10000x16_S_d0_1 : S10000x16.ReducesTo [0, 1] S_
  h_S_ : 0 < S_.numel
  slices_S2x160000_S1x160000_1_0 : S2x160000.Slices ![1, 0] S1x160000
  bcast_S_S10000x128 : S_.BroadcastsInDim S10000x128 (![] : Fin 0 → Fin S10000x128.rank)
  reducesTo_S10000x128_S_d0_1 : S10000x128.ReducesTo [0, 1] S_
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_where {F : FTy → Type} [FloatOps F] (arg0 : IVec S10000x16 1) (arg1 : IVec S10000x16 32) (arg2 : IVec S10000x16 32) : IVec S10000x16 32 :=
  let v0 : IVec S10000x16 32 := select arg0 arg1 arg2
  v0

def fn_part2 {F : FTy → Type} [FloatOps F] (main_arg4 : FVec F S128x16 .f32) (main_arg5 : FVec F S16 .f32) (main_v35 : IVec S_ 1) (main_v36 : FVec F S128 .f32) : IVec S_ 1 :=
  let main_cst_9 : FVec F S_ .f32 := constant S_ .f32 0x7F800000#32
  let main_v37 : FVec F S128 .f32 := broadcastInDim S128 ![] bcast_S_S128 main_cst_9
  let main_v38 : IVec S128 1 := cmpf .olt main_v36 main_v37
  let main_c_10 : IVec S_ 1 := constantI S_ 1 1#1
  let main_v39 : IVec S_ 1 := (fun x v => Host.reduce IntOp.andi x v reducesTo_S128_S_d0 h_S_) main_v38 main_c_10
  let main_v40 : IVec S_ 1 := andi main_v35 main_v39
  let main_v41 : FVec F S128x16 .f32 := Host.absf main_arg4
  let main_cst_11 : FVec F S_ .f32 := constant S_ .f32 0x7F800000#32
  let main_v42 : FVec F S128x16 .f32 := broadcastInDim S128x16 ![] bcast_S_S128x16 main_cst_11
  let main_v43 : IVec S128x16 1 := cmpf .olt main_v41 main_v42
  let main_c_12 : IVec S_ 1 := constantI S_ 1 1#1
  let main_v44 : IVec S_ 1 := (fun x v => Host.reduce IntOp.andi x v reducesTo_S128x16_S_d0_1 h_S_) main_v43 main_c_12
  let main_v45 : IVec S_ 1 := andi main_v40 main_v44
  let main_v46 : FVec F S16 .f32 := Host.absf main_arg5
  let main_cst_13 : FVec F S_ .f32 := constant S_ .f32 0x7F800000#32
  let main_v47 : FVec F S16 .f32 := broadcastInDim S16 ![] bcast_S_S16 main_cst_13
  let main_v48 : IVec S16 1 := cmpf .olt main_v46 main_v47
  let main_c_14 : IVec S_ 1 := constantI S_ 1 1#1
  let main_v49 : IVec S_ 1 := (fun x v => Host.reduce IntOp.andi x v reducesTo_S16_S_d0 h_S_) main_v48 main_c_14
  let main_v50 : IVec S_ 1 := andi main_v45 main_v49
  main_v50

def fn_part1 {F : FTy → Type} [FloatOps F] (main_arg0 : FVec F S10000x128 .f32) (main_arg1 : FVec F S10000x10000 .f32) (main_arg2 : FVec F S128x128 .f32) (main_arg3 : FVec F S128 .f32) (main_arg4 : FVec F S128x16 .f32) (main_arg5 : FVec F S16 .f32) (main_v14 : IVec S_ 1) (main_v18 : IVec S10000x16 1) (main_c_3 : IVec S_ 1) : IVec S_ 1 :=
  let main_v19 : IVec S_ 1 := (fun x v => Host.reduce IntOp.andi x v reducesTo_S10000x16_S_d0_1 h_S_) main_v18 main_c_3
  let main_v20 : IVec S_ 1 := andi main_v14 main_v19
  let main_v21 : FVec F S10000x128 .f32 := Host.absf main_arg0
  let main_cst : FVec F S_ .f32 := constant S_ .f32 0x7F800000#32
  let main_v22 : FVec F S10000x128 .f32 := broadcastInDim S10000x128 ![] bcast_S_S10000x128 main_cst
  let main_v23 : IVec S10000x128 1 := cmpf .olt main_v21 main_v22
  let main_c_4 : IVec S_ 1 := constantI S_ 1 1#1
  let main_v24 : IVec S_ 1 := (fun x v => Host.reduce IntOp.andi x v reducesTo_S10000x128_S_d0_1 h_S_) main_v23 main_c_4
  let main_v25 : IVec S_ 1 := andi main_v20 main_v24
  let main_v26 : FVec F S10000x10000 .f32 := Host.absf main_arg1
  let main_cst_5 : FVec F S_ .f32 := constant S_ .f32 0x7F800000#32
  let main_v27 : FVec F S10000x10000 .f32 := broadcastInDim S10000x10000 ![] bcast_S_S10000x10000 main_cst_5
  let main_v28 : IVec S10000x10000 1 := cmpf .olt main_v26 main_v27
  let main_c_6 : IVec S_ 1 := constantI S_ 1 1#1
  let main_v29 : IVec S_ 1 := (fun x v => Host.reduce IntOp.andi x v reducesTo_S10000x10000_S_d0_1 h_S_) main_v28 main_c_6
  let main_v30 : IVec S_ 1 := andi main_v25 main_v29
  let main_v31 : FVec F S128x128 .f32 := Host.absf main_arg2
  let main_cst_7 : FVec F S_ .f32 := constant S_ .f32 0x7F800000#32
  let main_v32 : FVec F S128x128 .f32 := broadcastInDim S128x128 ![] bcast_S_S128x128 main_cst_7
  let main_v33 : IVec S128x128 1 := cmpf .olt main_v31 main_v32
  let main_c_8 : IVec S_ 1 := constantI S_ 1 1#1
  let main_v34 : IVec S_ 1 := (fun x v => Host.reduce IntOp.andi x v reducesTo_S128x128_S_d0_1 h_S_) main_v33 main_c_8
  let main_v35 : IVec S_ 1 := andi main_v30 main_v34
  let main_v36 : FVec F S128 .f32 := Host.absf main_arg3
  fn_part2 (F := F) main_arg4 main_arg5 main_v35 main_v36

def fn {F : FTy → Type} [FloatOps F] (main_arg0 : FVec F S10000x128 .f32) (main_arg1 : FVec F S10000x10000 .f32) (main_arg2 : FVec F S128x128 .f32) (main_arg3 : FVec F S128 .f32) (main_arg4 : FVec F S128x16 .f32) (main_arg5 : FVec F S16 .f32) (main_arg6 : FVec F S256x128 .f32) (main_arg7 : IVec S2x160000 32) : IVec S_ 1 :=
  let main_v0 : IVec S10000x16 32 := iotaInDim S10000x16 32 0
  let main_v1 : IVec S10000x16 32 := iotaInDim S10000x16 32 1
  let main_v2 : IVec S10000x16 32 := addi main_v0 main_v1
  let main_c : IVec S_ 32 := constantI S_ 32 1#32
  let main_v3 : IVec S10000x16 32 := broadcastInDim S10000x16 ![] bcast_S_S10000x16 main_c
  let main_v4 : IVec S10000x16 32 := addi main_v2 main_v3
  let main_c_0 : IVec S_ 32 := constantI S_ 32 10000#32
  let main_v5 : IVec S10000x16 32 := broadcastInDim S10000x16 ![] bcast_S_S10000x16 main_c_0
  let main_v6 : IVec S10000x16 1 := cmpi .slt main_v4 main_v5
  let main_c_1 : IVec S_ 32 := constantI S_ 32 10000#32
  let main_v7 : IVec S10000x16 32 := broadcastInDim S10000x16 ![] bcast_S_S10000x16 main_c_1
  let main_v8 : IVec S10000x16 32 := subi main_v4 main_v7
  let main_v9 : IVec S10000x16 32 := fn_where (F := F) main_v6 main_v4 main_v8
  let main_v10 : IVec S1x160000 32 := (extractStridedSlice S1x160000 ![0, 0] · slices_S2x160000_S1x160000_0_0) main_arg7
  let main_v11 : IVec S160000 32 := shapeCast S160000 main_v10 shapeCasts_S1x160000_S160000
  let main_v12 : IVec S10000x16 32 := shapeCast S10000x16 main_v11 shapeCasts_S160000_S10000x16
  let main_v13 : IVec S10000x16 1 := cmpi .eq main_v12 main_v0
  let main_c_2 : IVec S_ 1 := constantI S_ 1 1#1
  let main_v14 : IVec S_ 1 := (fun x v => Host.reduce IntOp.andi x v reducesTo_S10000x16_S_d0_1 h_S_) main_v13 main_c_2
  let main_v15 : IVec S1x160000 32 := (extractStridedSlice S1x160000 ![1, 0] · slices_S2x160000_S1x160000_1_0) main_arg7
  let main_v16 : IVec S160000 32 := shapeCast S160000 main_v15 shapeCasts_S1x160000_S160000
  let main_v17 : IVec S10000x16 32 := shapeCast S10000x16 main_v16 shapeCasts_S160000_S10000x16
  let main_v18 : IVec S10000x16 1 := cmpi .eq main_v17 main_v9
  let main_c_3 : IVec S_ 1 := constantI S_ 1 1#1
  fn_part1 (F := F) main_arg0 main_arg1 main_arg2 main_arg3 main_arg4 main_arg5 main_v14 main_v18 main_c_3
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S256x128 : Shape := ⟨2, ![256, 128]⟩
abbrev S2x160000 : Shape := ⟨2, ![2, 160000]⟩
abbrev S1x128 : Shape := ⟨2, ![1, 128]⟩
abbrev S1x16 : Shape := ⟨2, ![1, 16]⟩
abbrev S10000x16 : Shape := ⟨2, ![10000, 16]⟩
abbrev S400x10000 : Shape := ⟨2, ![400, 10000]⟩
abbrev S10016x128 : Shape := ⟨2, ![10016, 128]⟩
abbrev S800x128 : Shape := ⟨2, ![800, 128]⟩
abbrev S400x128 : Shape := ⟨2, ![400, 128]⟩
abbrev S16x128 : Shape := ⟨2, ![16, 128]⟩
abbrev S400x16 : Shape := ⟨2, ![400, 16]⟩
abbrev S400 : Shape := ⟨1, ![400]⟩
abbrev S400x1 : Shape := ⟨2, ![400, 1]⟩

abbrev nBuf : Space → Nat
  | .hbm => 13
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S256x128, .f32⟩
  | .hbm, ⟨7, _⟩ => ⟨S2x160000, .i32⟩
  | .hbm, ⟨8, _⟩ => ⟨S1x128, .f32⟩
  | .hbm, ⟨9, _⟩ => ⟨S1x16, .f32⟩
  | .hbm, ⟨10, _⟩ => ⟨S128x128, .f32⟩
  | .hbm, ⟨11, _⟩ => ⟨S128x128, .f32⟩
  | .hbm, ⟨12, _⟩ => ⟨S10000x16, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S128x16, .f32⟩
  | .local _ .vmem, ⟨8, _⟩ => ⟨S1x16, .f32⟩
  | .local _ .vmem, ⟨9, _⟩ => ⟨S10000x16, .f32⟩
  | .local _ .vmem, ⟨10, _⟩ => ⟨S10000x128, .f32⟩
  | .local _ .vmem, ⟨11, _⟩ => ⟨S10016x128, .f32⟩
  | .local _ .vmem, ⟨12, _⟩ => ⟨S10016x128, .f32⟩
  | .local _ .vmem, ⟨13, _⟩ => ⟨S800x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v17 : BitVec 32 := Scalar.muli arg0 c400_i32
  let v18 : Index := Scalar.indexCast v17
  let c0_11 : Index := 0#32
  ![v18.toNat, 0]
def k0_off2 (i : grid0.Coords) : Fin 2 → Nat :=
  let arg0 : BitVec 32 := BitVec.ofNat 32 (i 0).val
  let c2_i32 : BitVec 32 := 2#32
  let c0_i32_18 : BitVec 32 := 0#32
  let v32 : BitVec 1 := Scalar.cmpi .eq c2_i32 c0_i32_18
  let c1_i32 : BitVec 32 := 1#32
  let v33 : BitVec 32 := Scalar.select v32 c1_i32 c2_i32
  let v34 : BitVec 32 := Scalar.remsi arg0 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c400_i32_22 : BitVec 32 := 400#32
  let v42 : BitVec 32 := Scalar.muli v41 c400_i32_22
  let v43 : Index := Scalar.indexCast v42
  let c0_23 : Index := 0#32
  ![v43.toNat, 0]
def k0_cond3 (i : grid0.Coords) : BitVec 1 :=
  let arg0 : BitVec 32 := BitVec.ofNat 32 (i 0).val
  let c1_i32_26 : BitVec 32 := 1#32
  let v50 : BitVec 1 := Scalar.cmpi .sge arg0 c1_i32_26
  let v51 : BitVec 32 := Scalar.extui v50
  let c0_i32_27 : BitVec 32 := 0#32
  let v52 : BitVec 1 := Scalar.cmpi .ne v51 c0_i32_27
  v52

def k0_off3 (i : grid0.Coords) : Fin 2 → Nat :=
  let arg0 : BitVec 32 := BitVec.ofNat 32 (i 0).val
  let c1_i32_29 : BitVec 32 := 1#32
  let v56 : BitVec 32 := Scalar.subi arg0 c1_i32_29
  let c2_i32_31 : BitVec 32 := 2#32
  let c0_i32_32 : BitVec 32 := 0#32
  let v58 : BitVec 1 := Scalar.cmpi .eq c2_i32_31 c0_i32_32
  let c1_i32_33 : BitVec 32 := 1#32
  let v59 : BitVec 32 := Scalar.select v58 c1_i32_33 c2_i32_31
  let v60 : BitVec 32 := Scalar.remsi v56 v59
  let c0_i32_35 : BitVec 32 := 0#32
  let v62 : BitVec 1 := Scalar.cmpi .slt v60 c0_i32_35
  let c0_i32_36 : BitVec 32 := 0#32
  let v63 : BitVec 1 := Scalar.cmpi .slt v59 c0_i32_36
  let v64 : BitVec 1 := Scalar.xori v62 v63
  let c0_i32_34 : BitVec 32 := 0#32
  let v61 : BitVec 1 := Scalar.cmpi .ne v60 c0_i32_34
  let v65 : BitVec 1 := Scalar.andi v64 v61
  let v66 : BitVec 32 := Scalar.addi v60 v59
  let v67 : BitVec 32 := Scalar.select v65 v66 v60
  let c400_i32_37 : BitVec 32 := 400#32
  let v68 : BitVec 32 := Scalar.muli v67 c400_i32_37
  let v69 : Index := Scalar.indexCast v68
  let c0_38 : Index := 0#32
  ![v69.toNat, 0]
def k0_off4 (i : grid0.Coords) : Fin 2 → Nat :=
  let arg0 : BitVec 32 := BitVec.ofNat 32 (i 0).val
  let c1_i32_29 : BitVec 32 := 1#32
  let v56 : BitVec 32 := Scalar.subi arg0 c1_i32_29
  let c400_i32_30 : BitVec 32 := 400#32
  let v57 : BitVec 32 := Scalar.muli v56 c400_i32_30
  let v71 : Index := Scalar.indexCast v57
  let c0_39 : Index := 0#32
  ![v71.toNat, 0]
def k0_off5 (i : grid0.Coords) (c1_i32_42 : BitVec 32) : Fin 2 → Nat :=
  let arg0 : BitVec 32 := BitVec.ofNat 32 (i 0).val
  let c1_i32_29 : BitVec 32 := 1#32
  let v56 : BitVec 32 := Scalar.subi arg0 c1_i32_29
  let c400_i32_30 : BitVec 32 := 400#32
  let v57 : BitVec 32 := Scalar.muli v56 c400_i32_30
  let v75 : BitVec 32 := Scalar.addi v57 c1_i32_42
  let v76 : Index := Scalar.indexCast v75
  let c0_43 : Index := 0#32
  ![v76.toNat, 0]
def k0_off6 (i : grid0.Coords) : Fin 2 → Nat :=
  let arg0 : BitVec 32 := BitVec.ofNat 32 (i 0).val
  let c1_i32_29 : BitVec 32 := 1#32
  let v56 : BitVec 32 := Scalar.subi arg0 c1_i32_29
  let c400_i32_30 : BitVec 32 := 400#32
  let v57 : BitVec 32 := Scalar.muli v56 c400_i32_30
  let v274 : Index := Scalar.indexCast v57
  let c0_101 : Index := 0#32
  ![v274.toNat, 0]
def k0_cond4 (i : grid0.Coords) : BitVec 1 :=
  let arg0 : BitVec 32 := BitVec.ofNat 32 (i 0).val
  let c24_i32 : BitVec 32 := 24#32
  let v53 : BitVec 1 := Scalar.cmpi .eq arg0 c24_i32
  let v54 : BitVec 32 := Scalar.extui v53
  let c0_i32_28 : BitVec 32 := 0#32
  let v55 : BitVec 1 := Scalar.cmpi .ne v54 c0_i32_28
  v55

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10000x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S256x128 : Shape := ⟨2, ![256, 128]⟩
abbrev S2x160000 : Shape := ⟨2, ![2, 160000]⟩
abbrev S1x128 : Shape := ⟨2, ![1, 128]⟩
abbrev S_ : Shape := ⟨0, ![]⟩
abbrev S1x160000 : Shape := ⟨2, ![1, 160000]⟩
abbrev S160000 : Shape := ⟨1, ![160000]⟩
abbrev S160000x1 : Shape := ⟨2, ![160000, 1]⟩
abbrev S1 : Shape := ⟨1, ![1]⟩
abbrev S1x1 : Shape := ⟨2, ![1, 1]⟩
abbrev S160000x128 : Shape := ⟨2, ![160000, 128]⟩
abbrev S160000x256 : Shape := ⟨2, ![160000, 256]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 101
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S256x128, .f32⟩
  | .hbm, ⟨7, _⟩ => ⟨S2x160000, .i32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S1x160000, .i32⟩
  | .hbm, ⟨17, _⟩ => ⟨S160000, .i32⟩
  | .hbm, ⟨18, _⟩ => ⟨S1x160000, .i32⟩
  | .hbm, ⟨19, _⟩ => ⟨S160000, .i32⟩
  | .hbm, ⟨20, _⟩ => ⟨S_, .i32⟩
  | .hbm, ⟨21, _⟩ => ⟨S160000, .i32⟩
  | .hbm, ⟨22, _⟩ => ⟨S160000, .i1⟩
  | .hbm, ⟨23, _⟩ => ⟨S_, .i32⟩
  | .hbm, ⟨24, _⟩ => ⟨S160000, .i32⟩
  | .hbm, ⟨25, _⟩ => ⟨S160000, .i32⟩
  | .hbm, ⟨26, _⟩ => ⟨S160000, .i32⟩
  | .hbm, ⟨27, _⟩ => ⟨S160000x1, .i32⟩
  | .hbm, ⟨28, _⟩ => ⟨S1, .i32⟩
  | .hbm, ⟨29, _⟩ => ⟨S_, .i32⟩
  | .hbm, ⟨30, _⟩ => ⟨S160000x1, .i32⟩
  | .hbm, ⟨31, _⟩ => ⟨S160000x1, .i1⟩
  | .hbm, ⟨32, _⟩ => ⟨S1x1, .i32⟩
  | .hbm, ⟨33, _⟩ => ⟨S160000x1, .i32⟩
  | .hbm, ⟨34, _⟩ => ⟨S160000x1, .i1⟩
  | .hbm, ⟨35, _⟩ => ⟨S160000x1, .i1⟩
  | .hbm, ⟨36, _⟩ => ⟨S_, .i1⟩
  | .hbm, ⟨37, _⟩ => ⟨S160000, .i1⟩
  | .hbm, ⟨38, _⟩ => ⟨S160000x128, .f32⟩
  | .hbm, ⟨39, _⟩ => ⟨S160000x128, .i1⟩
  | .hbm, ⟨40, _⟩ => ⟨S_, .f32⟩
  | .hbm, ⟨41, _⟩ => ⟨S160000x128, .f32⟩
  | .hbm, ⟨42, _⟩ => ⟨S160000x128, .f32⟩
  | .hbm, ⟨43, _⟩ => ⟨S_, .i32⟩
  | .hbm, ⟨44, _⟩ => ⟨S160000, .i32⟩
  | .hbm, ⟨45, _⟩ => ⟨S160000, .i1⟩
  | .hbm, ⟨46, _⟩ => ⟨S_, .i32⟩
  | .hbm, ⟨47, _⟩ => ⟨S160000, .i32⟩
  | .hbm, ⟨48, _⟩ => ⟨S160000, .i32⟩
  | .hbm, ⟨49, _⟩ => ⟨S160000, .i32⟩
  | .hbm, ⟨50, _⟩ => ⟨S160000x1, .i32⟩
  | .hbm, ⟨51, _⟩ => ⟨S1, .i32⟩
  | .hbm, ⟨52, _⟩ => ⟨S_, .i32⟩
  | .hbm, ⟨53, _⟩ => ⟨S160000x1, .i32⟩
  | .hbm, ⟨54, _⟩ => ⟨S160000x1, .i1⟩
  | .hbm, ⟨55, _⟩ => ⟨S1x1, .i32⟩
  | .hbm, ⟨56, _⟩ => ⟨S160000x1, .i32⟩
  | .hbm, ⟨57, _⟩ => ⟨S160000x1, .i1⟩
  | .hbm, ⟨58, _⟩ => ⟨S160000x1, .i1⟩
  | .hbm, ⟨59, _⟩ => ⟨S_, .i1⟩
  | .hbm, ⟨60, _⟩ => ⟨S160000, .i1⟩
  | .hbm, ⟨61, _⟩ => ⟨S160000x128, .f32⟩
  | .hbm, ⟨62, _⟩ => ⟨S160000x128, .i1⟩
  | .hbm, ⟨63, _⟩ => ⟨S_, .f32⟩
  | .hbm, ⟨64, _⟩ => ⟨S160000x128, .f32⟩
  | .hbm, ⟨65, _⟩ => ⟨S160000x128, .f32⟩
  | .hbm, ⟨66, _⟩ => ⟨S160000x256, .f32⟩
  | .hbm, ⟨67, _⟩ => ⟨S160000x128, .f32⟩
  | .hbm, ⟨68, _⟩ => ⟨S160000x128, .f32⟩
  | .hbm, ⟨69, _⟩ => ⟨S160000x128, .f32⟩
  | .hbm, ⟨70, _⟩ => ⟨S_, .f32⟩
  | .hbm, ⟨71, _⟩ => ⟨S160000x128, .f32⟩
  | .hbm, ⟨72, _⟩ => ⟨S160000x128, .f32⟩
  | .hbm, ⟨73, _⟩ => ⟨S_, .f32⟩
  | .hbm, ⟨74, _⟩ => ⟨S160000x128, .f32⟩
  | .hbm, ⟨75, _⟩ => ⟨S160000x128, .f32⟩
  | .hbm, ⟨76, _⟩ => ⟨S160000x128, .f32⟩
  | .hbm, ⟨77, _⟩ => ⟨S_, .f32⟩
  | .hbm, ⟨78, _⟩ => ⟨S10000x128, .f32⟩
  | .hbm, ⟨79, _⟩ => ⟨S160000x1, .i32⟩
  | .hbm, ⟨80, _⟩ => ⟨S10000x128, .f32⟩
  | .hbm, ⟨81, _⟩ => ⟨S10000x128, .f32⟩
  | .hbm, ⟨82, _⟩ => ⟨S10000x16, .f32⟩
  | .hbm, ⟨83, _⟩ => ⟨S1x16, .f32⟩
  | .hbm, ⟨84, _⟩ => ⟨S10000x16, .f32⟩
  | .hbm, ⟨85, _⟩ => ⟨S10000x16, .f32⟩
  | .hbm, ⟨86, _⟩ => ⟨S_, .f32⟩
  | .hbm, ⟨87, _⟩ => ⟨S10000, .f32⟩
  | .hbm, ⟨88, _⟩ => ⟨S_, .f32⟩
  | .hbm, ⟨89, _⟩ => ⟨S10000, .f32⟩
  | .hbm, ⟨90, _⟩ => ⟨S10000, .f32⟩
  | .hbm, ⟨91, _⟩ => ⟨S10000x1, .f32⟩
  | .hbm, ⟨92, _⟩ => ⟨S10000x16, .f32⟩
  | .hbm, ⟨93, _⟩ => ⟨S10000x16, .f32⟩
  | .hbm, ⟨94, _⟩ => ⟨S10000x16, .f32⟩
  | .hbm, ⟨95, _⟩ => ⟨S_, .f32⟩
  | .hbm, ⟨96, _⟩ => ⟨S10000, .f32⟩
  | .hbm, ⟨97, _⟩ => ⟨S10000x1, .f32⟩
  | .hbm, ⟨98, _⟩ => ⟨S10000x1, .f32⟩
  | .hbm, ⟨99, _⟩ => ⟨S10000x16, .f32⟩
  | .hbm, ⟨100, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v10 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_cst : Ref sig .tc := ⟨.hbm, 63, rfl⟩
abbrev main_call2_v15 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst : Ref sig .tc := ⟨.hbm, 70, rfl⟩
abbrev main_v16 : Ref sig .tc := ⟨.hbm, 71, rfl⟩
abbrev main_v17 : Ref sig .tc := ⟨.hbm, 72, rfl⟩
abbrev main_cst_0 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_cst_1 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_call3_cst : Ref sig .tc := ⟨.hbm, 86, rfl⟩
abbrev main_call3_v0 : Ref sig .tc := ⟨.hbm, 87, rfl⟩
abbrev main_call3_cst_0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_cst_1 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_v29 : Ref sig .tc := ⟨.hbm, 100, rfl⟩

abbrev nD : Nat := 1
abbrev τ : Topo := Topo.v7x

variable {F : FTy → Type} [FloatOps F]
-- ==== Proof.Blocks.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Pointwise
public import Idealize.ShloMosaic.Lib.WritesUnit
public import Idealize.ShloMosaic.Lib.Tactic

@[expose] public section

/-!
# What the blocks of the kernel hold

The kernel walks over 25 blocks of 400 nodes. At point `t` it computes the block `t` of the hidden layer and of two
products of it, and keeps all three in scratch. At point `t ≥ 1` it also combines the rows it has kept into the block
`t - 1` of the result; at the last point it combines block 24 as well.

This module names those values as functions of what the kernel was given (`Ins`), states what the scratch buffers hold
before each point (`Inv`) and which rows of the result are right after it (`OutOk`), and has the lemmas that read a
scratch buffer after a store of whole rows.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- What the kernel reads: the node features, the first weights, the adjacency matrix by blocks of 400 rows, the first
bias, the two halves of the message weights, the second weights and the second bias. -/
structure Ins (F : FTy → Type) where
  x : Vec F S10000x128 .f32
  w0 : Vec F S128x128 .f32
  adj : ℕ → Vec F S400x10000 .f32
  b0 : Vec F S1x128 .f32
  wt : Vec F S128x128 .f32
  wb : Vec F S128x128 .f32
  w1 : Vec F S128x16 .f32
  b1 : Vec F S1x16 .f32

/-- The features times the first weights. -/
def sup (P : Ins F) : Vec F S10000x128 .f32 := k0_pay27 P.x P.w0

/-- Block `t` of the hidden layer. -/
def hB (P : Ins F) (t : ℕ) : Vec F S400x128 .f32 := k0_pay28 (P.adj t) (sup P) P.b0

/-- Block `t` of half the hidden layer times the lower message weights. -/
def bB (P : Ins F) (t : ℕ) : Vec F S400x128 .f32 := k0_pay29 (P.adj t) (sup P) P.b0 P.wb

/-- Block `t` of half the hidden layer times the upper message weights. -/
def aB (P : Ins F) (t : ℕ) : Vec F S400x128 .f32 := k0_pay32 (P.adj t) (sup P) P.b0 P.wt

/-- The rows of a blocked array, its first sixteen rows repeated from row 10000 on. -/
def rowsOf (B : ℕ → Vec F S400x128 .f32) (r : ℕ) (f : Fin 128) : Elt F .f32 :=
  if r < 10000 then B (r / 400) (ix2 ⟨r % 400, Nat.mod_lt _ (by omega)⟩ f)
  else B 0 (ix2 ⟨(r - 10000) % 400, Nat.mod_lt _ (by omega)⟩ f)

/-- The 400 rows of an array of rows from row `o` on. -/
def blk (X : ℕ → Fin 128 → Elt F .f32) (o : ℕ) : Vec F S400x128 .f32 := fun j => X (o + (j 0).val) (j 1)

/-- The sum over the first `n` neighbours of `tanh (a + b_k) * h_k`. -/
def accT (a : FVec F S400x128 .f32) (b h : ℕ → FVec F S400x128 .f32) : ℕ → FVec F S400x128 .f32
  | 0 => broadcast S400x128 (Scalar.ofBits .f32 0x00000000#32 : F .f32)
  | n + 1 => addf (accT a b h n) (mulf (tanh (addf a (b (n + 1)))) (h (n + 1)))

/-- The sum over the first `n` neighbours of `h_k`. -/
def accH (h : ℕ → FVec F S400x128 .f32) : ℕ → FVec F S400x128 .f32
  | 0 => broadcast S400x128 (Scalar.ofBits .f32 0x00000000#32 : F .f32)
  | n + 1 => addf (accH h n) (h (n + 1))

/-- The combined features of a block: its own rows, half the sum of `tanh (a + b_k) * h_k` and half the sum of `h_k`. -/
def mixed (a hi : FVec F S400x128 .f32) (b h : ℕ → FVec F S400x128 .f32) : FVec F S400x128 .f32 :=
  addf (addf hi (mulf (broadcast S400x128 (Scalar.ofBits .f32 0x3F000000#32 : F .f32)) (accT a b h 16)))
    (mulf (broadcast S400x128 (Scalar.ofBits .f32 0x3F000000#32 : F .f32)) (accH h 16))

/-- The logits of a block. -/
def logits (z : FVec F S400x128 .f32) (w1 : Vec F S128x16 .f32) (b1 : Vec F S1x16 .f32) : FVec F S400x16 .f32 :=
  addf (matmul dot_S400x128_S128x16_S400x16_1_0_0_1_n_n none z w1 (constant S400x16 .f32 0x00000000#32))
    (broadcastTo S400x16 (shapeCast S1x16 b1 shapeCasts_S1x16_S1x16) broadcasts_S1x16_S400x16)

/-- The greatest entry of each row. -/
def rowMax (o : FVec F S400x16 .f32) : FVec F S400x1 .f32 :=
  shapeCast S400x1 (multiReduction .maximumf [1] S400 o 0xFF800000#32 reduces_S400x16_S400 (.inl rfl) rfl)
    shapeCasts_S400_S400x1

/-- The sum over each row of the exponentials, the row's greatest entry taken off first. -/
def rowSum (o : FVec F S400x16 .f32) : FVec F S400x1 .f32 :=
  shapeCast S400x1 (multiReduction .add [1] S400 (exp (subf o (broadcastTo S400x16 (rowMax o) broadcasts_S400x1_S400x16)))
    0x00000000#32 reduces_S400x16_S400 (.inl rfl) rfl) shapeCasts_S400_S400x1

/-- The logarithm of the softmax of each row. -/
def logSoft (o : FVec F S400x16 .f32) : FVec F S400x16 .f32 :=
  subf o (broadcastTo S400x16 (addf (rowMax o) (log (rowSum o))) broadcasts_S400x1_S400x16)

/-- The result rows of a block from the rows it combines. -/
def agg (a hi : FVec F S400x128 .f32) (b h : ℕ → FVec F S400x128 .f32) (w1 : Vec F S128x16 .f32) (b1 : Vec F S1x16 .f32) :
    FVec F S400x16 .f32 :=
  logSoft (logits (mixed a hi b h) w1 b1)

/-- The hidden layer by rows. -/
def HX (P : Ins F) : ℕ → Fin 128 → Elt F .f32 := rowsOf (hB P)

/-- Half the hidden layer times the lower message weights, by rows. -/
def BX (P : Ins F) : ℕ → Fin 128 → Elt F .f32 := rowsOf (bB P)

/-- Block `j` of the result. -/
def outB (P : Ins F) (j : ℕ) : FVec F S400x16 .f32 :=
  agg (aB P j) (blk (HX P) (j * 400)) (fun k => blk (BX P) (j * 400 + k)) (fun k => blk (HX P) (j * 400 + k)) P.w1 P.b1

/-- The result by rows. -/
def outX (P : Ins F) (r : ℕ) (f : Fin 16) : Elt F .f32 :=
  outB P (r / 400) (ix2 ⟨r % 400, Nat.mod_lt _ (by omega)⟩ f)

/-- What the scratch buffers hold before point `t`: nothing in particular before the first one; afterwards the product of
features and weights, the rows kept so far and the first sixteen again at the end, and block `t - 1` in its slot. -/
def Inv (P : Ins F) (t : ℕ) (X0 : Vec F S10000x128 .f32) (X1 X2 : Vec F S10016x128 .f32) (X3 : Vec F S800x128 .f32) : Prop :=
  t = 0 ∨ (X0 = sup P
    ∧ (∀ y : S10016x128.Idx, (y 0).val < 400 * t ∨ 10000 ≤ (y 0).val → X1 y = HX P (y 0).val (y 1))
    ∧ (∀ y : S10016x128.Idx, (y 0).val < 400 * t ∨ 10000 ≤ (y 0).val → X2 y = BX P (y 0).val (y 1))
    ∧ (∀ (y : S800x128.Idx) (p : S400x128.Idx), (y 0).val = (t - 1) % 2 * 400 + (p 0).val → (y 1).val = (p 1).val →
        X3 y = aB P (t - 1) p))

/-- The result's rows below `n` are right. -/
def OutOk (P : Ins F) (n : ℕ) (X : Vec F S10000x16 .f32) : Prop :=
  ∀ y : S10000x16.Idx, (y 0).val < n → X y = outX P (y 0).val (y 1)

/-- The number of result rows that are right after point `t`. -/
def rowsDone (t : ℕ) : ℕ := if t = 24 then 10000 else 400 * t

/-! ## The stored values are the named ones -/

/-- The hidden block is stored as it was computed. -/
theorem pay30_eq (a : Vec F S400x10000 .f32) (s : Vec F S10000x128 .f32) (b : Vec F S1x128 .f32) :
    k0_pay30 a s b = k0_pay28 a s b := by
  unfold k0_pay30; exact shapeCast_self _ _

/-- The block of the lower product is stored as it was computed. -/
theorem pay31_eq (a : Vec F S400x10000 .f32) (s : Vec F S10000x128 .f32) (b : Vec F S1x128 .f32) (w : Vec F S128x128 .f32) :
    k0_pay31 a s b w = k0_pay29 a s b w := by
  unfold k0_pay31; exact shapeCast_self _ _

/-- The block of the upper product is stored as it was computed. -/
theorem pay1_eq (v : FVec F S400x128 .f32) : k0_pay1 v = v := by
  unfold k0_pay1; exact shapeCast_self _ _

/-- The copy of the first sixteen rows reads the block at the same row and column. -/
theorem pay2_apply (v : FVec F S400x128 .f32) (p : S16x128.Idx) :
    k0_pay2 v p = v (ix2 ⟨(p 0).val, by have := (p 0).isLt; exact lt_of_lt_of_le this (by decide)⟩ ⟨(p 1).val, (p 1).isLt⟩) := by
  unfold k0_pay2
  rw [shapeCast_self]
  exact congrArg v (funext fun a => Fin.ext (by fin_cases a <;> simp [ix2]))

/-- The same for the copy of the lower product's first sixteen rows. -/
theorem pay3_apply (v : FVec F S400x128 .f32) (p : S16x128.Idx) :
    k0_pay3 v p = v (ix2 ⟨(p 0).val, by have := (p 0).isLt; exact lt_of_lt_of_le this (by decide)⟩ ⟨(p 1).val, (p 1).isLt⟩) :=
  pay2_apply v p

/-! ## Offsets -/

/-- Where a point stores its rows of the hidden layer and of the lower product. -/
theorem off1_eq (i : grid0.Coords) : k0_off1 i = ![(i 0).val * 400, 0] := by
  unfold k0_off1; generalize i 0 = k; revert k; decide +kernel

/-- Where a point stores its rows of the upper product: the two halves of that buffer take turns. -/
theorem off2_eq (i : grid0.Coords) : k0_off2 i = ![(i 0).val % 2 * 400, 0] := by
  unfold k0_off2; generalize i 0 = k; revert k; decide +kernel

/-- Where a point finds the previous block's rows of the upper product. -/
theorem off3_eq (i : grid0.Coords) : k0_off3 i = ![((i 0).val + 1) % 2 * 400, 0] := by
  unfold k0_off3; generalize i 0 = k; revert k; decide +kernel

/-- Where a point finds the previous block's own hidden rows. -/
theorem off4_eq (i : grid0.Coords) : 0 < (i 0).val → k0_off4 i = ![((i 0).val - 1) * 400, 0] := by
  unfold k0_off4; generalize i 0 = k; revert k; decide +kernel

/-- Where a point stores the previous block's rows of the result. -/
theorem off6_eq (i : grid0.Coords) : 0 < (i 0).val → k0_off6 i = ![((i 0).val - 1) * 400, 0] := by
  unfold k0_off6; generalize i 0 = k; revert k; decide +kernel

/-- Where a point finds the previous block's neighbours: the same number of rows, some places further on. -/
theorem off5_eq (i : grid0.Coords) : 0 < (i 0).val → ∀ r : Fin 16,
    k0_off5 i (BitVec.ofNat 32 (1 + r.val)) = ![((i 0).val - 1) * 400 + (r.val + 1), 0] := by
  unfold k0_off5; generalize i 0 = k; revert k; decide +kernel

/-- The offsets of the `n`-th neighbour's rows, at the point after block `j`. -/
theorem off5_at (i : grid0.Coords) (j : ℕ) (hj : (i 0).val = j + 1) (b : BitVec 32) (r : Fin 16) (n : ℕ)
    (hb : b = BitVec.ofNat 32 (1 + r.val)) (hn : 1 + r.val = n) :
    k0_off5 i b = ![j * 400 + n, 0] := by
  rw [hb, off5_eq i (by omega) r, hj, Nat.add_sub_cancel, Nat.add_comm r.val 1, hn]

/-! ## Reading rows -/

/-- A load of a whole buffer reads its contents. -/
theorem readAt_full {d : Fin 2 → ℕ} {sp : Space} (v : View sig .tc sp (⟨2, d⟩ : Shape) .f32) (f : v.ty.Contents (Elt F))
    (inb : ∀ a : Fin 2, (![0, 0] : Fin 2 → ℕ) a + d a ≤ d a) :
    v.readAt (Elt F) (Rect.unit (s := ⟨2, d⟩) ![0, 0] d inb).toLoadRect f = v.read (Elt F) f := by
  funext x
  rw [View.readAt_apply]
  refine congrArg (v.read (Elt F) f) (funext fun a => Fin.ext ?_)
  fin_cases a
  · show 0 + 1 * (x 0).val = (x 0).val
    omega
  · show 0 + 1 * (x 1).val = (x 1).val
    omega

/-- A load of rows from row `o` on reads those rows. -/
theorem readAt_rows {d size off : Fin 2 → ℕ} {o : ℕ} {sp : Space} (v : View sig .tc sp (⟨2, d⟩ : Shape) .f32)
    (f : v.ty.Contents (Elt F)) (inb : ∀ a : Fin 2, off a + size a ≤ d a) (hoff : off = ![o, 0])
    (x : (Rect.unit (s := ⟨2, d⟩) off size inb).shape.Idx) (y : (⟨2, d⟩ : Shape).Idx)
    (h0 : (y 0).val = o + (x 0).val) (h1 : (y 1).val = (x 1).val) :
    v.readAt (Elt F) (Rect.unit (s := ⟨2, d⟩) off size inb).toLoadRect f x = v.read (Elt F) f y := by
  subst hoff
  rw [View.readAt_apply]
  refine congrArg (v.read (Elt F) f) (funext fun a => Fin.ext ?_)
  fin_cases a
  · show o + 1 * (x 0).val = (y 0).val
    omega
  · show 0 + 1 * (x 1).val = (y 1).val
    omega

/-- A load of 400 rows of a buffer whose rows are known reads a block of them. -/
theorem readAt_blk {sp : Space} (v : View sig .tc sp S10016x128 .f32) (f : v.ty.Contents (Elt F))
    (X : ℕ → Fin 128 → Elt F .f32) {off : Fin 2 → ℕ} (o : ℕ)
    (inb : ∀ a : Fin 2, off a + S400x128.size a ≤ S10016x128.size a) (hoff : off = ![o, 0])
    (hX : ∀ y : S10016x128.Idx, o ≤ (y 0).val → (y 0).val < o + 400 → v.read (Elt F) f y = X (y 0).val (y 1)) :
    v.readAt (Elt F) (Rect.unit (s := S10016x128) off S400x128.size inb).toLoadRect f = blk X o := by
  funext x
  have hx : (x 0).val < 400 := (x 0).isLt
  have hb : o + 400 ≤ 10016 := by have := inb 0; subst hoff; exact this
  have h := readAt_rows v f inb hoff x (ix2 ⟨o + (x 0).val, by omega⟩ ⟨(x 1).val, (x 1).isLt⟩) rfl rfl
  rw [h, hX _ (Nat.le_add_right _ _) (Nat.add_lt_add_left hx _)]
  rfl

/-! ## Storing rows -/

/-- A pair of positions is the index with those positions. -/
theorem ix2_of_vals {m n : ℕ} (p : (⟨2, ![m, n]⟩ : Shape).Idx) (a : Fin m) (b : Fin n) (ha : a.val = (p 0).val)
    (hb : b.val = (p 1).val) : (ix2 a b : (⟨2, ![m, n]⟩ : Shape).Idx) = p := by
  funext k
  match k with
  | ⟨0, _⟩ => exact Fin.ext ha
  | ⟨1, _⟩ => exact Fin.ext hb

/-- Row `p` of block `t` of a blocked array. -/
theorem rowsOf_block (B : ℕ → Vec F S400x128 .f32) (t : ℕ) (ht : t < 25) (p : S400x128.Idx) :
    rowsOf B (t * 400 + (p 0).val) (p 1) = B t p := by
  have hp : (p 0).val < 400 := (p 0).isLt
  unfold rowsOf
  rw [if_pos (by omega)]
  have h1 : (t * 400 + (p 0).val) / 400 = t := by omega
  have h2 : (t * 400 + (p 0).val) % 400 = (p 0).val := by omega
  rw [h1]
  exact congrArg (B t) (ix2_of_vals _ _ _ h2 rfl)

/-- The repeated rows are those of block 0. -/
theorem rowsOf_wrap (B : ℕ → Vec F S400x128 .f32) (p : S400x128.Idx) :
    rowsOf B (10000 + (p 0).val) (p 1) = B 0 p := by
  have hp : (p 0).val < 400 := (p 0).isLt
  unfold rowsOf
  rw [if_neg (by omega)]
  have h2 : (10000 + (p 0).val - 10000) % 400 = (p 0).val := by omega
  exact congrArg (B 0) (ix2_of_vals _ _ _ h2 rfl)

/-- Storing block `t` of a blocked array where the rows before it are kept keeps one block more. -/
theorem keep_block {sp : Space} (v : View sig .tc sp S10016x128 .f32) (f : v.ty.Contents (Elt F))
    (B : ℕ → Vec F S400x128 .f32) (t : ℕ) (ht : t < 25) {off : Fin 2 → ℕ}
    (inb : ∀ a : Fin 2, off a + S400x128.size a ≤ S10016x128.size a) (hoff : off = ![t * 400, 0])
    (w : Vec F S400x128 .f32) (hw : w = B t)
    (hX : ∀ y : S10016x128.Idx, (y 0).val < 400 * t ∨ 10000 ≤ (y 0).val → v.read (Elt F) f y = rowsOf B (y 0).val (y 1)) :
    ∀ y : S10016x128.Idx, (y 0).val < 400 * (t + 1) ∨ 10000 ≤ (y 0).val →
      v.read (Elt F) (v.writes (Elt F) f [⟨Rect.unit (s := S10016x128) off S400x128.size inb, w⟩]) y
        = rowsOf B (y 0).val (y 1) := by
  intro y hy
  by_cases h : t * 400 ≤ (y 0).val ∧ (y 0).val < t * 400 + 400
  · have hx : ((y 0).val - t * 400) < 400 := by omega
    let x : S400x128.Idx := ix2 ⟨(y 0).val - t * 400, hx⟩ ⟨(y 1).val, (y 1).isLt⟩
    have hx0 : (y 0).val = t * 400 + (x 0).val := by show _ = _ + ((y 0).val - t * 400); omega
    refine (View.read_writes_cons_rows_of_mem v f inb w [] y x hoff hx0 rfl).trans ?_
    rw [hw, ← rowsOf_block B t ht x, ← hx0]
    rfl
  · refine (View.read_writes_cons_rows_of_not_mem v f inb w [] y hoff (W := 400) rfl (by omega)).trans ?_
    exact hX y (by omega)

/-- The first point stores block 0 and its first sixteen rows again at the end. -/
theorem keep_first {sp : Space} (v : View sig .tc sp S10016x128 .f32) (f : v.ty.Contents (Elt F))
    (B : ℕ → Vec F S400x128 .f32) {off : Fin 2 → ℕ}
    (inb' : ∀ a : Fin 2, (![10000, 0] : Fin 2 → ℕ) a + S16x128.size a ≤ S10016x128.size a)
    (inb : ∀ a : Fin 2, off a + S400x128.size a ≤ S10016x128.size a) (hoff : off = ![0, 0])
    (w' : Vec F S16x128 .f32) (w : Vec F S400x128 .f32) (hw' : w' = k0_pay2 (B 0)) (hw : w = B 0) :
    ∀ y : S10016x128.Idx, (y 0).val < 400 * (0 + 1) ∨ 10000 ≤ (y 0).val →
      v.read (Elt F) (v.writes (Elt F) f [⟨Rect.unit (s := S10016x128) ![10000, 0] S16x128.size inb', w'⟩,
        ⟨Rect.unit (s := S10016x128) off S400x128.size inb, w⟩]) y = rowsOf B (y 0).val (y 1) := by
  intro y hy
  have hy0 : (y 0).val < 10016 := (y 0).isLt
  by_cases h : 10000 ≤ (y 0).val
  · let x : S16x128.Idx := ix2 ⟨(y 0).val - 10000, by omega⟩ ⟨(y 1).val, (y 1).isLt⟩
    have hx0 : (y 0).val = 10000 + (x 0).val := by show _ = _ + ((y 0).val - 10000); omega
    refine (View.read_writes_cons_rows_of_mem v f inb' w' _ y x rfl hx0 rfl).trans ?_
    rw [hw', pay2_apply, ← rowsOf_wrap B, hx0]
    rfl
  · refine (View.read_writes_cons_rows_of_not_mem v f inb' w' _ y rfl (W := 16) rfl (by omega)).trans ?_
    let x : S400x128.Idx := ix2 ⟨(y 0).val, by omega⟩ ⟨(y 1).val, (y 1).isLt⟩
    have hx0 : (y 0).val = 0 + (x 0).val := (Nat.zero_add _).symm
    refine (View.read_writes_cons_rows_of_mem v f inb w [] y x hoff hx0 rfl).trans ?_
    rw [hw, ← rowsOf_block B 0 (by omega) x, hx0, Nat.zero_mul]
    rfl

/-- Storing a block in its slot. -/
theorem slot_store {sp : Space} (v : View sig .tc sp S800x128 .f32) (f : v.ty.Contents (Elt F)) (t : ℕ)
    {off : Fin 2 → ℕ} (inb : ∀ a : Fin 2, off a + S400x128.size a ≤ S800x128.size a) (hoff : off = ![t % 2 * 400, 0])
    (w : Vec F S400x128 .f32) :
    ∀ (y : S800x128.Idx) (p : S400x128.Idx), (y 0).val = t % 2 * 400 + (p 0).val → (y 1).val = (p 1).val →
      v.read (Elt F) (v.writes (Elt F) f [⟨Rect.unit (s := S800x128) off S400x128.size inb, w⟩]) y = w p :=
  fun y p h0 h1 => View.read_writes_cons_rows_of_mem v f inb w [] y p hoff h0 h1

/-- A load of 400 rows just stored reads them back. -/
theorem read_back {n : ℕ} {sp : Space} (v : View sig .tc sp (⟨2, ![n, 128]⟩ : Shape) .f32) (f : v.ty.Contents (Elt F)) (o : ℕ)
    {off off' : Fin 2 → ℕ} (inb : ∀ a : Fin 2, off a + S400x128.size a ≤ (![n, 128] : Fin 2 → ℕ) a) (hoff : off = ![o, 0])
    (inb' : ∀ a : Fin 2, off' a + S400x128.size a ≤ (![n, 128] : Fin 2 → ℕ) a) (hoff' : off' = ![o, 0])
    (w : Vec F S400x128 .f32) :
    v.readAt (Elt F) (Rect.unit (s := ⟨2, ![n, 128]⟩) off' S400x128.size inb').toLoadRect
      (v.writes (Elt F) f [⟨Rect.unit (s := ⟨2, ![n, 128]⟩) off S400x128.size inb, w⟩]) = w := by
  funext x
  have hx : (x 0).val < 400 := (x 0).isLt
  have hn : o + 400 ≤ n := by have := inb 0; subst hoff; exact this
  let y : (⟨2, ![n, 128]⟩ : Shape).Idx := ix2 ⟨o + (x 0).val, by omega⟩ ⟨(x 1).val, (x 1).isLt⟩
  rw [readAt_rows v _ inb' hoff' x y rfl rfl]
  exact View.read_writes_cons_rows_of_mem v f inb w [] y x hoff rfl rfl

/-- The rows of block `t` of a blocked array are the block. -/
theorem blk_rowsOf (B : ℕ → Vec F S400x128 .f32) (t : ℕ) (ht : t < 25) : blk (rowsOf B) (t * 400) = B t :=
  funext fun p => rowsOf_block B t ht p

/-- The other slot is as it was. -/
theorem slot_other {sp : Space} (v : View sig .tc sp S800x128 .f32) (f : v.ty.Contents (Elt F)) (t : ℕ)
    {off off' : Fin 2 → ℕ} (inb : ∀ a : Fin 2, off a + S400x128.size a ≤ S800x128.size a)
    (hoff : off = ![(t + 1) % 2 * 400, 0])
    (inb' : ∀ a : Fin 2, off' a + S400x128.size a ≤ S800x128.size a) (hoff' : off' = ![t % 2 * 400, 0])
    (w u : Vec F S400x128 .f32)
    (hu : ∀ (y : S800x128.Idx) (p : S400x128.Idx), (y 0).val = t % 2 * 400 + (p 0).val → (y 1).val = (p 1).val →
      v.read (Elt F) f y = u p) :
    v.readAt (Elt F) (Rect.unit (s := S800x128) off' S400x128.size inb').toLoadRect
      (v.writes (Elt F) f [⟨Rect.unit (s := S800x128) off S400x128.size inb, w⟩]) = u := by
  funext x
  have hx : (x 0).val < 400 := (x 0).isLt
  let y : S800x128.Idx := ix2 ⟨t % 2 * 400 + (x 0).val, by omega⟩ ⟨(x 1).val, (x 1).isLt⟩
  rw [readAt_rows v _ inb' hoff' x y rfl rfl]
  refine (View.read_writes_cons_rows_of_not_mem v f inb w [] y hoff (W := 400) rfl ?_).trans (hu y x rfl rfl)
  show t % 2 * 400 + (x 0).val < _ ∨ _ ≤ t % 2 * 400 + (x 0).val
  omega

/-- Row `p` of block `j` of the result. -/
theorem outX_block (P : Ins F) (j : ℕ) (p : S400x16.Idx) : outX P (j * 400 + (p 0).val) (p 1) = outB P j p := by
  have hp : (p 0).val < 400 := (p 0).isLt
  unfold outX
  have h1 : (j * 400 + (p 0).val) / 400 = j := by omega
  have h2 : (j * 400 + (p 0).val) % 400 = (p 0).val := by omega
  rw [h1]
  exact congrArg (outB P j) (ix2_of_vals _ _ _ h2 rfl)

/-- Storing block `j` of the result where the rows before it are right makes one block more right. -/
theorem out_store (P : Ins F) {sp : Space} (v : View sig .tc sp S10000x16 .f32) (f : v.ty.Contents (Elt F)) (j : ℕ)
    {off : Fin 2 → ℕ} (inb : ∀ a : Fin 2, off a + S400x16.size a ≤ S10000x16.size a) (hoff : off = ![j * 400, 0])
    (w : Vec F S400x16 .f32) (hw : w = outB P j) (L : List (View.Piece (Elt F) S10000x16 .f32))
    (h : OutOk P (400 * j) (v.read (Elt F) (v.writes (Elt F) f L))) :
    OutOk P (400 * (j + 1))
      (v.read (Elt F) (v.writes (Elt F) f (⟨Rect.unit (s := S10000x16) off S400x16.size inb, w⟩ :: L))) := by
  intro y hy
  by_cases hj : j * 400 ≤ (y 0).val
  · let x : S400x16.Idx := ix2 ⟨(y 0).val - j * 400, by omega⟩ ⟨(y 1).val, (y 1).isLt⟩
    have hx0 : (y 0).val = j * 400 + (x 0).val := by show _ = _ + ((y 0).val - j * 400); omega
    refine (View.read_writes_cons_rows_of_mem v f inb w L y x hoff hx0 rfl).trans ?_
    rw [hw, ← outX_block P j x, ← hx0]
    rfl
  · refine (View.read_writes_cons_rows_of_not_mem v f inb w L y hoff (W := 400) rfl (by omega)).trans ?_
    exact h y (by omega)

end Cert.KernelIdeal.Hand
end
-- ==== Proof.Body.lean ====
module

public import proofs.«01_k».proof.Proof.Blocks
public import Idealize.ShloMosaic.Lib.VecWindow

@[expose] public section

/-!
# One point of the grid

What the kernel's body does at the first point, at a point in the middle and at the last point: from scratch buffers that
hold what `Inv` says before the point it leaves them holding what `Inv` says before the next one, and the result rows it
stores are right.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (c : Dev nD) (i : grid0.Coords)
  (arg1 : Memref sig .tc .vmem S10000x128 .f32) (harg1 : arg1.IsWhole)
  (arg2 : Memref sig .tc .vmem S128x128 .f32) (harg2 : arg2.IsWhole)
  (arg3 : Memref sig .tc .vmem S400x10000 .f32) (harg3 : arg3.IsWhole)
  (arg4 : Memref sig .tc .vmem S1x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S128x16 .f32) (harg7 : arg7.IsWhole)
  (arg8 : Memref sig .tc .vmem S1x16 .f32) (harg8 : arg8.IsWhole)
  (arg9 : Memref sig .tc .vmem S10000x16 .f32) (harg9 : arg9.IsWhole)
  (s0 : Memref sig .tc .vmem S10000x128 .f32) (hs0 : s0.IsWhole)
  (s1 : Memref sig .tc .vmem S10016x128 .f32) (hs1 : s1.IsWhole)
  (s2 : Memref sig .tc .vmem S10016x128 .f32) (hs2 : s2.IsWhole)
  (s3 : Memref sig .tc .vmem S800x128 .f32) (hs3 : s3.IsWhole)
  (f1 : Buf (Elt F) (arg1.view.loc (c : Thread nD τ)))
  (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (g0 : Buf (Elt F) (s0.view.loc (c : Thread nD τ)))
  (g1 : Buf (Elt F) (s1.view.loc (c : Thread nD τ)))
  (g2 : Buf (Elt F) (s2.view.loc (c : Thread nD τ)))
  (g3 : Buf (Elt F) (s3.view.loc (c : Thread nD τ)))
/-- The first point. -/
theorem run_first (P : Ins F) (h0 : (i 0).val = 0)
    (hC1 : Scalar.cmpi .ne (Scalar.extui (Scalar.cmpi .eq (BitVec.ofNat 32 (i 0).val) 0#32) : BitVec 32) 0#32 = 1#1)
    (h3 : ¬ k0_cond3 i = 1#1) (h4 : ¬ k0_cond4 i = 1#1)
    (hf1 : arg1.view.read (Elt F) f1 = P.x)
    (hf2 : arg2.view.read (Elt F) f2 = P.w0)
    (hf3 : arg3.view.read (Elt F) f3 = P.adj (i 0).val)
    (hf4 : arg4.view.read (Elt F) f4 = P.b0)
    (hf5 : arg5.view.read (Elt F) f5 = P.wt)
    (hf6 : arg6.view.read (Elt F) f6 = P.wb)
    (hf7 : arg7.view.read (Elt F) f7 = P.w1)
    (hf8 : arg8.view.read (Elt F) f8 = P.b1)
    (K : PUnit → sProp 𝕄) :
    iprop((arg1.view.loc (c : Thread nD τ) ↦{fullShare} f1) ∗ (arg2.view.loc (c : Thread nD τ) ↦{fullShare} f2)
        ∗ (arg3.view.loc (c : Thread nD τ) ↦{fullShare} f3) ∗ (arg4.view.loc (c : Thread nD τ) ↦{fullShare} f4)
        ∗ (arg5.view.loc (c : Thread nD τ) ↦{fullShare} f5) ∗ (arg6.view.loc (c : Thread nD τ) ↦{fullShare} f6)
        ∗ (arg7.view.loc (c : Thread nD τ) ↦{fullShare} f7) ∗ (arg8.view.loc (c : Thread nD τ) ↦{fullShare} f8)
        ∗ (arg9.view.loc (c : Thread nD τ) ↦{fullShare} f9) ∗ (s0.view.loc (c : Thread nD τ) ↦{fullShare} g0)
        ∗ (s1.view.loc (c : Thread nD τ) ↦{fullShare} g1) ∗ (s2.view.loc (c : Thread nD τ) ↦{fullShare} g2)
        ∗ (s3.view.loc (c : Thread nD τ) ↦{fullShare} g3)
        ∗ (((arg1.view.loc (c : Thread nD τ) ↦{fullShare} f1) ∗ (arg2.view.loc (c : Thread nD τ) ↦{fullShare} f2)
        ∗ (arg3.view.loc (c : Thread nD τ) ↦{fullShare} f3) ∗ (arg4.view.loc (c : Thread nD τ) ↦{fullShare} f4)
        ∗ (arg5.view.loc (c : Thread nD τ) ↦{fullShare} f5) ∗ (arg6.view.loc (c : Thread nD τ) ↦{fullShare} f6)
        ∗ (arg7.view.loc (c : Thread nD τ) ↦{fullShare} f7) ∗ (arg8.view.loc (c : Thread nD τ) ↦{fullShare} f8)
          ∗ ∃ f9' g0' g1' g2' g3',
            ⌜OutOk P (rowsDone (i 0).val) (arg9.view.read (Elt F) f9')
              ∧ Inv P ((i 0).val + 1) (s0.view.read (Elt F) g0') (s1.view.read (Elt F) g1') (s2.view.read (Elt F) g2')
                  (s3.view.read (Elt F) g3')⌝
            ∗ (arg9.view.loc (c : Thread nD τ) ↦{fullShare} f9') ∗ (s0.view.loc (c : Thread nD τ) ↦{fullShare} g0')
            ∗ (s1.view.loc (c : Thread nD τ) ↦{fullShare} g1') ∗ (s2.view.loc (c : Thread nD τ) ↦{fullShare} g2')
            ∗ (s3.view.loc (c : Thread nD τ) ↦{fullShare} g3')) -∗ K ⟨⟩))
      ⊢ wp frame (wpE (defs₀ (F := F)) Variants.none c none) Set.univ
          (cc0__fused_body i arg1 harg1 arg2 harg2 arg3 harg3 arg4 harg4 arg5 harg5 arg6 harg6 arg7 harg7 arg8 harg8 arg9 harg9 s0 hs0 s1 hs1 s2 hs2 s3 hs3) K := by
  simp only [cc0__fused_body_eq_skeleton]; unfold cc0__fused_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  iintro ⟨H1, H2, H3, H4, H5, H6, H7, H8, H9, S0, S1, S2, S3, Hk⟩
  letI : ClosedOff (k0_off1 i) := ⟨![0, 0], by rw [off1_eq, h0]⟩
  letI : ClosedOff (k0_off2 i) := ⟨![0, 0], by rw [off2_eq, h0]⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _, _, _, _, _
  isplitr
  swap
  · isplitl [H9]; · iexact H9
    isplitl [S0]; · iexact S0
    isplitl [S1]; · iexact S1
    isplitl [S2]; · iexact S2
    iexact S3
  ipureintro
  have e1 : arg1.view.readAt (Elt F) (Rect.unit (s := S10000x128) ![0, 0] S10000x128.size inb_S10000x128_S10000x128_0_0).toLoadRect f1 = P.x :=
    (readAt_full arg1.view f1 _).trans hf1
  have e2 : arg2.view.readAt (Elt F) (Rect.unit (s := S128x128) ![0, 0] S128x128.size inb_S128x128_S128x128_0_0).toLoadRect f2 = P.w0 :=
    (readAt_full arg2.view f2 _).trans hf2
  have e3 : arg3.view.readAt (Elt F) (Rect.unit (s := S400x10000) ![0, 0] S400x10000.size inb_S400x10000_S400x10000_0_0).toLoadRect f3 = P.adj (i 0).val :=
    (readAt_full arg3.view f3 _).trans hf3
  have e4 : arg4.view.readAt (Elt F) (Rect.unit (s := S1x128) ![0, 0] S1x128.size inb_S1x128_S1x128_0_0).toLoadRect f4 = P.b0 :=
    (readAt_full arg4.view f4 _).trans hf4
  have e5 : arg5.view.readAt (Elt F) (Rect.unit (s := S128x128) ![0, 0] S128x128.size inb_S128x128_S128x128_0_0).toLoadRect f5 = P.wt :=
    (readAt_full arg5.view f5 _).trans hf5
  have e6 : arg6.view.readAt (Elt F) (Rect.unit (s := S128x128) ![0, 0] S128x128.size inb_S128x128_S128x128_0_0).toLoadRect f6 = P.wb :=
    (readAt_full arg6.view f6 _).trans hf6
  rw [h0] at e3
  have hw27 := congrArg₂ k0_pay27 e1 e2
  have hsup : run_first.sl.v4 c arg1 arg2 s0 f1 f2 = sup P :=
    (View.readCov_full s0.view inb_S10000x128_S10000x128_0_0 inb_S10000x128_S10000x128_0_0 _ []).trans hw27
  have hh : run_first.sl.r c arg1 arg2 arg3 arg4 s0 f1 f2 f3 f4 = hB P 0 := by
    unfold run_first.sl.r; rw [e3, e4, hsup]; rfl
  have hb : run_first.sl.r_1 c arg1 arg2 arg3 arg4 arg6 s0 f1 f2 f3 f4 f6 = bB P 0 := by
    unfold run_first.sl.r_1; rw [e3, e4, e6, hsup]; rfl
  have ha : run_first.sl.r_2 c arg1 arg2 arg3 arg4 arg5 s0 f1 f2 f3 f4 f5 = aB P 0 := by
    unfold run_first.sl.r_2; rw [e3, e4, e5, hsup]; rfl
  rw [h0]
  refine ⟨fun y hy => absurd hy (Nat.not_lt_zero _), .inr ⟨?_, ?_, ?_, ?_⟩⟩
  · refine Eq.trans ?_ hw27
    funext y
    exact View.read_writes_cons_rows_of_mem s0.view g0 inb_S10000x128_S10000x128_0_0 _ [] y y rfl (Nat.zero_add _).symm rfl
  · refine keep_first s1.view g1 (hB P) inb_S10016x128_S16x128_10000_0 _ (by rw [off1_eq, h0]) _ _ ?_ ?_
    · rw [hh]
    · rw [e3, e4, hsup, pay30_eq]; rfl
  · refine keep_first s2.view g2 (bB P) inb_S10016x128_S16x128_10000_0 _ (by rw [off1_eq, h0]) _ _ ?_ ?_
    · rw [hb]; rfl
    · rw [e3, e4, e6, hsup, pay31_eq]; rfl
  · have hs := slot_store s3.view g3 0 (off := k0_off2 i) (k0_off2_inb i) (by rw [off2_eq, h0]) (aB P 0)
    rw [ha, pay1_eq]
    exact hs

/-- A point in the middle. -/
theorem run_mid (P : Ins F) (j : ℕ) (hj : (i 0).val = j + 1) (hj24 : j < 23)
    (hC1 : ¬ Scalar.cmpi .ne (Scalar.extui (Scalar.cmpi .eq (BitVec.ofNat 32 (i 0).val) 0#32) : BitVec 32) 0#32 = 1#1)
    (h3 : k0_cond3 i = 1#1) (h4 : ¬ k0_cond4 i = 1#1)
    (h9 : OutOk P (400 * j) (arg9.view.read (Elt F) f9))
    (hI : Inv P (j + 1) (s0.view.read (Elt F) g0) (s1.view.read (Elt F) g1) (s2.view.read (Elt F) g2) (s3.view.read (Elt F) g3))
    (hf1 : arg1.view.read (Elt F) f1 = P.x)
    (hf2 : arg2.view.read (Elt F) f2 = P.w0)
    (hf3 : arg3.view.read (Elt F) f3 = P.adj (i 0).val)
    (hf4 : arg4.view.read (Elt F) f4 = P.b0)
    (hf5 : arg5.view.read (Elt F) f5 = P.wt)
    (hf6 : arg6.view.read (Elt F) f6 = P.wb)
    (hf7 : arg7.view.read (Elt F) f7 = P.w1)
    (hf8 : arg8.view.read (Elt F) f8 = P.b1)
    (K : PUnit → sProp 𝕄) :
    iprop((arg1.view.loc (c : Thread nD τ) ↦{fullShare} f1) ∗ (arg2.view.loc (c : Thread nD τ) ↦{fullShare} f2)
        ∗ (arg3.view.loc (c : Thread nD τ) ↦{fullShare} f3) ∗ (arg4.view.loc (c : Thread nD τ) ↦{fullShare} f4)
        ∗ (arg5.view.loc (c : Thread nD τ) ↦{fullShare} f5) ∗ (arg6.view.loc (c : Thread nD τ) ↦{fullShare} f6)
        ∗ (arg7.view.loc (c : Thread nD τ) ↦{fullShare} f7) ∗ (arg8.view.loc (c : Thread nD τ) ↦{fullShare} f8)
        ∗ (arg9.view.loc (c : Thread nD τ) ↦{fullShare} f9) ∗ (s0.view.loc (c : Thread nD τ) ↦{fullShare} g0)
        ∗ (s1.view.loc (c : Thread nD τ) ↦{fullShare} g1) ∗ (s2.view.loc (c : Thread nD τ) ↦{fullShare} g2)
        ∗ (s3.view.loc (c : Thread nD τ) ↦{fullShare} g3)
        ∗ (((arg1.view.loc (c : Thread nD τ) ↦{fullShare} f1) ∗ (arg2.view.loc (c : Thread nD τ) ↦{fullShare} f2)
        ∗ (arg3.view.loc (c : Thread nD τ) ↦{fullShare} f3) ∗ (arg4.view.loc (c : Thread nD τ) ↦{fullShare} f4)
        ∗ (arg5.view.loc (c : Thread nD τ) ↦{fullShare} f5) ∗ (arg6.view.loc (c : Thread nD τ) ↦{fullShare} f6)
        ∗ (arg7.view.loc (c : Thread nD τ) ↦{fullShare} f7) ∗ (arg8.view.loc (c : Thread nD τ) ↦{fullShare} f8)
          ∗ ∃ f9' g0' g1' g2' g3',
            ⌜OutOk P (rowsDone (i 0).val) (arg9.view.read (Elt F) f9')
              ∧ Inv P ((i 0).val + 1) (s0.view.read (Elt F) g0') (s1.view.read (Elt F) g1') (s2.view.read (Elt F) g2')
                  (s3.view.read (Elt F) g3')⌝
            ∗ (arg9.view.loc (c : Thread nD τ) ↦{fullShare} f9') ∗ (s0.view.loc (c : Thread nD τ) ↦{fullShare} g0')
            ∗ (s1.view.loc (c : Thread nD τ) ↦{fullShare} g1') ∗ (s2.view.loc (c : Thread nD τ) ↦{fullShare} g2')
            ∗ (s3.view.loc (c : Thread nD τ) ↦{fullShare} g3')) -∗ K ⟨⟩))
      ⊢ wp frame (wpE (defs₀ (F := F)) Variants.none c none) Set.univ
          (cc0__fused_body i arg1 harg1 arg2 harg2 arg3 harg3 arg4 harg4 arg5 harg5 arg6 harg6 arg7 harg7 arg8 harg8 arg9 harg9 s0 hs0 s1 hs1 s2 hs2 s3 hs3) K := by
  simp only [cc0__fused_body_eq_skeleton]; unfold cc0__fused_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  iintro ⟨H1, H2, H3, H4, H5, H6, H7, H8, H9, S0, S1, S2, S3, Hk⟩
  letI : ClosedOff (k0_off1 i) := ⟨![(j + 1) * 400, 0], by rw [off1_eq, hj]⟩
  letI : ClosedOff (k0_off2 i) := ⟨![(j + 1) % 2 * 400, 0], by rw [off2_eq, hj]⟩
  letI : ClosedOff (k0_off3 i) := ⟨![j % 2 * 400, 0], by rw [off3_eq, hj, show (j + 1 + 1) % 2 = j % 2 by omega]⟩
  letI : ClosedOff (k0_off4 i) := ⟨![j * 400, 0], by rw [off4_eq i (by omega), hj, Nat.add_sub_cancel]⟩
  letI : ClosedOff (k0_off6 i) := ⟨![j * 400, 0], by rw [off6_eq i (by omega), hj, Nat.add_sub_cancel]⟩
  letI : ClosedOff (k0_off5 i 1#32) := ⟨![j * 400 + 1, 0], off5_at i j hj 1#32 0 1 rfl rfl⟩
  letI : ClosedOff (k0_off5 i 2#32) := ⟨![j * 400 + 2, 0], off5_at i j hj 2#32 1 2 rfl rfl⟩
  letI : ClosedOff (k0_off5 i 3#32) := ⟨![j * 400 + 3, 0], off5_at i j hj 3#32 2 3 rfl rfl⟩
  letI : ClosedOff (k0_off5 i 4#32) := ⟨![j * 400 + 4, 0], off5_at i j hj 4#32 3 4 rfl rfl⟩
  letI : ClosedOff (k0_off5 i 5#32) := ⟨![j * 400 + 5, 0], off5_at i j hj 5#32 4 5 rfl rfl⟩
  letI : ClosedOff (k0_off5 i 6#32) := ⟨![j * 400 + 6, 0], off5_at i j hj 6#32 5 6 rfl rfl⟩
  letI : ClosedOff (k0_off5 i 7#32) := ⟨![j * 400 + 7, 0], off5_at i j hj 7#32 6 7 rfl rfl⟩
  letI : ClosedOff (k0_off5 i 8#32) := ⟨![j * 400 + 8, 0], off5_at i j hj 8#32 7 8 rfl rfl⟩
  letI : ClosedOff (k0_off5 i 9#32) := ⟨![j * 400 + 9, 0], off5_at i j hj 9#32 8 9 rfl rfl⟩
  letI : ClosedOff (k0_off5 i 10#32) := ⟨![j * 400 + 10, 0], off5_at i j hj 10#32 9 10 rfl rfl⟩
  letI : ClosedOff (k0_off5 i 11#32) := ⟨![j * 400 + 11, 0], off5_at i j hj 11#32 10 11 rfl rfl⟩
  letI : ClosedOff (k0_off5 i 12#32) := ⟨![j * 400 + 12, 0], off5_at i j hj 12#32 11 12 rfl rfl⟩
  letI : ClosedOff (k0_off5 i 13#32) := ⟨![j * 400 + 13, 0], off5_at i j hj 13#32 12 13 rfl rfl⟩
  letI : ClosedOff (k0_off5 i 14#32) := ⟨![j * 400 + 14, 0], off5_at i j hj 14#32 13 14 rfl rfl⟩
  letI : ClosedOff (k0_off5 i 15#32) := ⟨![j * 400 + 15, 0], off5_at i j hj 15#32 14 15 rfl rfl⟩
  letI : ClosedOff (k0_off5 i 16#32) := ⟨![j * 400 + 16, 0], off5_at i j hj 16#32 15 16 rfl rfl⟩
  sl_exec
  sl_step
  have hI' := hI
  obtain h | ⟨hI0, hI1, hI2, hI3⟩ := hI
  · exact absurd h (Nat.succ_ne_zero j)
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _, _, _, _, _
  isplitr
  swap
  · isplitl [H9]; · iexact H9
    isplitl [S0]; · iexact S0
    isplitl [S1]; · iexact S1
    isplitl [S2]; · iexact S2
    iexact S3
  ipureintro
  have e3 : arg3.view.readAt (Elt F) (Rect.unit (s := S400x10000) ![0, 0] S400x10000.size inb_S400x10000_S400x10000_0_0).toLoadRect f3 = P.adj (i 0).val :=
    (readAt_full arg3.view f3 _).trans hf3
  have e4 : arg4.view.readAt (Elt F) (Rect.unit (s := S1x128) ![0, 0] S1x128.size inb_S1x128_S1x128_0_0).toLoadRect f4 = P.b0 :=
    (readAt_full arg4.view f4 _).trans hf4
  have e5 : arg5.view.readAt (Elt F) (Rect.unit (s := S128x128) ![0, 0] S128x128.size inb_S128x128_S128x128_0_0).toLoadRect f5 = P.wt :=
    (readAt_full arg5.view f5 _).trans hf5
  have e6 : arg6.view.readAt (Elt F) (Rect.unit (s := S128x128) ![0, 0] S128x128.size inb_S128x128_S128x128_0_0).toLoadRect f6 = P.wb :=
    (readAt_full arg6.view f6 _).trans hf6
  have e7 : arg7.view.readAt (Elt F) (Rect.unit (s := S128x16) ![0, 0] S128x16.size inb_S128x16_S128x16_0_0).toLoadRect f7 = P.w1 :=
    (readAt_full arg7.view f7 _).trans hf7
  have e8 : arg8.view.readAt (Elt F) (Rect.unit (s := S1x16) ![0, 0] S1x16.size inb_S1x16_S1x16_0_0).toLoadRect f8 = P.b1 :=
    (readAt_full arg8.view f8 _).trans hf8
  rw [hj] at e3
  have e0 : s0.view.readAt (Elt F) (Rect.unit (s := S10000x128) ![0, 0] S10000x128.size inb_S10000x128_S10000x128_0_0).toLoadRect g0
      = sup P := (readAt_full s0.view g0 _).trans hI0
  have hw1 : k0_pay30 (arg3.view.readAt (Elt F) (Rect.unit (s := S400x10000) ![0, 0] S400x10000.size inb_S400x10000_S400x10000_0_0).toLoadRect f3)
      (s0.view.readAt (Elt F) (Rect.unit (s := S10000x128) ![0, 0] S10000x128.size inb_S10000x128_S10000x128_0_0).toLoadRect g0)
      (arg4.view.readAt (Elt F) (Rect.unit (s := S1x128) ![0, 0] S1x128.size inb_S1x128_S1x128_0_0).toLoadRect f4) = hB P (j + 1) := by
    rw [e3, e0, e4, pay30_eq]; rfl
  have hw2 : k0_pay31 (arg3.view.readAt (Elt F) (Rect.unit (s := S400x10000) ![0, 0] S400x10000.size inb_S400x10000_S400x10000_0_0).toLoadRect f3)
      (s0.view.readAt (Elt F) (Rect.unit (s := S10000x128) ![0, 0] S10000x128.size inb_S10000x128_S10000x128_0_0).toLoadRect g0)
      (arg4.view.readAt (Elt F) (Rect.unit (s := S1x128) ![0, 0] S1x128.size inb_S1x128_S1x128_0_0).toLoadRect f4)
      (arg6.view.readAt (Elt F) (Rect.unit (s := S128x128) ![0, 0] S128x128.size inb_S128x128_S128x128_0_0).toLoadRect f6) = bB P (j + 1) := by
    rw [e3, e0, e4, e6, pay31_eq]; rfl
  have hw3 : k0_pay1 (run_mid.sl.r_2 c arg3 arg4 arg5 s0 f3 f4 f5 g0) = aB P (j + 1) := by
    rw [pay1_eq]; unfold run_mid.sl.r_2; rw [e3, e0, e4, e5]; rfl
  have hS1 : ∀ y : S10016x128.Idx, (y 0).val < 400 * (j + 1 + 1) ∨ 10000 ≤ (y 0).val →
      s1.view.read (Elt F) (s1.view.writes (Elt F) g1 (run_mid.sl.S1_1 c i arg3 arg4 s0 f3 f4 g0)) y = HX P (y 0).val (y 1) :=
    keep_block s1.view g1 (hB P) (j + 1) (by omega) (k0_off1_inb i) (by rw [off1_eq, hj]) _ hw1 hI1
  have hS2 : ∀ y : S10016x128.Idx, (y 0).val < 400 * (j + 1 + 1) ∨ 10000 ≤ (y 0).val →
      s2.view.read (Elt F) (s2.view.writes (Elt F) g2 (run_mid.sl.S2_1 c i arg3 arg4 arg6 s0 f3 f4 f6 g0)) y
        = BX P (y 0).val (y 1) :=
    keep_block s2.view g2 (bB P) (j + 1) (by omega) (k0_off1_inb i) (by rw [off1_eq, hj]) _ hw2 hI2
  have hS3 : ∀ (y : S800x128.Idx) (p : S400x128.Idx), (y 0).val = (j + 1) % 2 * 400 + (p 0).val → (y 1).val = (p 1).val →
      s3.view.read (Elt F) (s3.view.writes (Elt F) g3 (run_mid.sl.S3_1 c i arg3 arg4 arg5 s0 f3 f4 f5 g0)) y = aB P (j + 1) p :=
    hw3 ▸ slot_store s3.view g3 (j + 1) (k0_off2_inb i) (by rw [off2_eq, hj]) _
  have q1 : ∀ {off : Fin 2 → ℕ} (o : ℕ) (inb : ∀ a : Fin 2, off a + S400x128.size a ≤ S10016x128.size a)
      (hoff : off = ![o, 0]) (ho : o + 400 ≤ 400 * (j + 1 + 1)),
      s1.view.readAt (Elt F) (Rect.unit (s := S10016x128) off S400x128.size inb).toLoadRect
        (s1.view.writes (Elt F) g1 (run_mid.sl.S1_1 c i arg3 arg4 s0 f3 f4 g0)) = blk (HX P) o :=
    fun o inb hoff ho => readAt_blk s1.view _ _ o inb hoff fun y h1 h2 => hS1 y (.inl (by omega))
  have q2 : ∀ {off : Fin 2 → ℕ} (o : ℕ) (inb : ∀ a : Fin 2, off a + S400x128.size a ≤ S10016x128.size a)
      (hoff : off = ![o, 0]) (ho : o + 400 ≤ 400 * (j + 1 + 1)),
      s2.view.readAt (Elt F) (Rect.unit (s := S10016x128) off S400x128.size inb).toLoadRect
        (s2.view.writes (Elt F) g2 (run_mid.sl.S2_1 c i arg3 arg4 arg6 s0 f3 f4 f6 g0)) = blk (BX P) o :=
    fun o inb hoff ho => readAt_blk s2.view _ _ o inb hoff fun y h1 h2 => hS2 y (.inl (by omega))
  have qh : run_mid.sl.v72 c i s1 g1 h3 = blk (HX P) (j * 400) :=
    readAt_blk s1.view g1 _ (j * 400) (k0_off4_inb i h3) (by rw [off4_eq i (by omega), hj, Nat.add_sub_cancel])
      fun y h1 h2 => hI1 y (.inl (by omega))
  have hI3' : ∀ (y : S800x128.Idx) (p : S400x128.Idx), (y 0).val = j % 2 * 400 + (p 0).val → (y 1).val = (p 1).val →
      s3.view.read (Elt F) g3 y = aB P j p := hI3
  have qa : s3.view.readAt (Elt F) (Rect.unit (s := S800x128) (k0_off3 i) S400x128.size (k0_off3_inb i h3)).toLoadRect
      (s3.view.writes (Elt F) g3 (run_mid.sl.S3_1 c i arg3 arg4 arg5 s0 f3 f4 f5 g0)) = aB P j :=
    slot_other s3.view g3 j (k0_off2_inb i) (by rw [off2_eq, hj]) (k0_off3_inb i h3)
      (by rw [off3_eq, hj, show (j + 1 + 1) % 2 = j % 2 by omega]) _ _ hI3'
  rw [hj]
  refine ⟨?_, .inr ⟨hI0, hS1, hS2, hS3⟩⟩
  rw [show rowsDone (j + 1) = 400 * (j + 1) from if_neg (by omega)]
  refine out_store P arg9.view f9 j (k0_off6_inb i h3) (by rw [off6_eq i (by omega), hj, Nat.add_sub_cancel]) _ ?_ [] h9
  unfold run_mid.sl.r_22 run_mid.sl.r_21 run_mid.sl.r_20 run_mid.sl.r_19 run_mid.sl.r_18 run_mid.sl.r_17 run_mid.sl.r_16 run_mid.sl.r_15 run_mid.sl.r_14 run_mid.sl.r_13 run_mid.sl.r_12 run_mid.sl.r_11 run_mid.sl.r_10 run_mid.sl.r_9 run_mid.sl.r_8 run_mid.sl.r_7 run_mid.sl.r_6 run_mid.sl.r_5 run_mid.sl.r_4 run_mid.sl.r_3
  rw [
      q2 (j * 400 + 1) _ (off5_at i j hj 1#32 0 1 rfl rfl) (by omega), q1 (j * 400 + 1) _ (off5_at i j hj 1#32 0 1 rfl rfl) (by omega),
      q2 (j * 400 + 2) _ (off5_at i j hj 2#32 1 2 rfl rfl) (by omega), q1 (j * 400 + 2) _ (off5_at i j hj 2#32 1 2 rfl rfl) (by omega),
      q2 (j * 400 + 3) _ (off5_at i j hj 3#32 2 3 rfl rfl) (by omega), q1 (j * 400 + 3) _ (off5_at i j hj 3#32 2 3 rfl rfl) (by omega),
      q2 (j * 400 + 4) _ (off5_at i j hj 4#32 3 4 rfl rfl) (by omega), q1 (j * 400 + 4) _ (off5_at i j hj 4#32 3 4 rfl rfl) (by omega),
      q2 (j * 400 + 5) _ (off5_at i j hj 5#32 4 5 rfl rfl) (by omega), q1 (j * 400 + 5) _ (off5_at i j hj 5#32 4 5 rfl rfl) (by omega),
      q2 (j * 400 + 6) _ (off5_at i j hj 6#32 5 6 rfl rfl) (by omega), q1 (j * 400 + 6) _ (off5_at i j hj 6#32 5 6 rfl rfl) (by omega),
      q2 (j * 400 + 7) _ (off5_at i j hj 7#32 6 7 rfl rfl) (by omega), q1 (j * 400 + 7) _ (off5_at i j hj 7#32 6 7 rfl rfl) (by omega),
      q2 (j * 400 + 8) _ (off5_at i j hj 8#32 7 8 rfl rfl) (by omega), q1 (j * 400 + 8) _ (off5_at i j hj 8#32 7 8 rfl rfl) (by omega),
      q2 (j * 400 + 9) _ (off5_at i j hj 9#32 8 9 rfl rfl) (by omega), q1 (j * 400 + 9) _ (off5_at i j hj 9#32 8 9 rfl rfl) (by omega),
      q2 (j * 400 + 10) _ (off5_at i j hj 10#32 9 10 rfl rfl) (by omega), q1 (j * 400 + 10) _ (off5_at i j hj 10#32 9 10 rfl rfl) (by omega),
      q2 (j * 400 + 11) _ (off5_at i j hj 11#32 10 11 rfl rfl) (by omega), q1 (j * 400 + 11) _ (off5_at i j hj 11#32 10 11 rfl rfl) (by omega),
      q2 (j * 400 + 12) _ (off5_at i j hj 12#32 11 12 rfl rfl) (by omega), q1 (j * 400 + 12) _ (off5_at i j hj 12#32 11 12 rfl rfl) (by omega),
      q2 (j * 400 + 13) _ (off5_at i j hj 13#32 12 13 rfl rfl) (by omega), q1 (j * 400 + 13) _ (off5_at i j hj 13#32 12 13 rfl rfl) (by omega),
      q2 (j * 400 + 14) _ (off5_at i j hj 14#32 13 14 rfl rfl) (by omega), q1 (j * 400 + 14) _ (off5_at i j hj 14#32 13 14 rfl rfl) (by omega),
      q2 (j * 400 + 15) _ (off5_at i j hj 15#32 14 15 rfl rfl) (by omega), q1 (j * 400 + 15) _ (off5_at i j hj 15#32 14 15 rfl rfl) (by omega),
      q2 (j * 400 + 16) _ (off5_at i j hj 16#32 15 16 rfl rfl) (by omega), q1 (j * 400 + 16) _ (off5_at i j hj 16#32 15 16 rfl rfl) (by omega),
      qa, qh, e7, e8]
  rfl

/-- The last point. -/
theorem run_last (P : Ins F) (hj : (i 0).val = 24)
    (hC1 : ¬ Scalar.cmpi .ne (Scalar.extui (Scalar.cmpi .eq (BitVec.ofNat 32 (i 0).val) 0#32) : BitVec 32) 0#32 = 1#1)
    (h3 : k0_cond3 i = 1#1) (h4 : k0_cond4 i = 1#1)
    (h9 : OutOk P 9200 (arg9.view.read (Elt F) f9))
    (hI : Inv P 24 (s0.view.read (Elt F) g0) (s1.view.read (Elt F) g1) (s2.view.read (Elt F) g2) (s3.view.read (Elt F) g3))
    (hf1 : arg1.view.read (Elt F) f1 = P.x)
    (hf2 : arg2.view.read (Elt F) f2 = P.w0)
    (hf3 : arg3.view.read (Elt F) f3 = P.adj (i 0).val)
    (hf4 : arg4.view.read (Elt F) f4 = P.b0)
    (hf5 : arg5.view.read (Elt F) f5 = P.wt)
    (hf6 : arg6.view.read (Elt F) f6 = P.wb)
    (hf7 : arg7.view.read (Elt F) f7 = P.w1)
    (hf8 : arg8.view.read (Elt F) f8 = P.b1)
    (K : PUnit → sProp 𝕄) :
    iprop((arg1.view.loc (c : Thread nD τ) ↦{fullShare} f1) ∗ (arg2.view.loc (c : Thread nD τ) ↦{fullShare} f2)
        ∗ (arg3.view.loc (c : Thread nD τ) ↦{fullShare} f3) ∗ (arg4.view.loc (c : Thread nD τ) ↦{fullShare} f4)
        ∗ (arg5.view.loc (c : Thread nD τ) ↦{fullShare} f5) ∗ (arg6.view.loc (c : Thread nD τ) ↦{fullShare} f6)
        ∗ (arg7.view.loc (c : Thread nD τ) ↦{fullShare} f7) ∗ (arg8.view.loc (c : Thread nD τ) ↦{fullShare} f8)
        ∗ (arg9.view.loc (c : Thread nD τ) ↦{fullShare} f9) ∗ (s0.view.loc (c : Thread nD τ) ↦{fullShare} g0)
        ∗ (s1.view.loc (c : Thread nD τ) ↦{fullShare} g1) ∗ (s2.view.loc (c : Thread nD τ) ↦{fullShare} g2)
        ∗ (s3.view.loc (c : Thread nD τ) ↦{fullShare} g3)
        ∗ (((arg1.view.loc (c : Thread nD τ) ↦{fullShare} f1) ∗ (arg2.view.loc (c : Thread nD τ) ↦{fullShare} f2)
        ∗ (arg3.view.loc (c : Thread nD τ) ↦{fullShare} f3) ∗ (arg4.view.loc (c : Thread nD τ) ↦{fullShare} f4)
        ∗ (arg5.view.loc (c : Thread nD τ) ↦{fullShare} f5) ∗ (arg6.view.loc (c : Thread nD τ) ↦{fullShare} f6)
        ∗ (arg7.view.loc (c : Thread nD τ) ↦{fullShare} f7) ∗ (arg8.view.loc (c : Thread nD τ) ↦{fullShare} f8)
          ∗ ∃ f9' g0' g1' g2' g3',
            ⌜OutOk P (rowsDone (i 0).val) (arg9.view.read (Elt F) f9')
              ∧ Inv P ((i 0).val + 1) (s0.view.read (Elt F) g0') (s1.view.read (Elt F) g1') (s2.view.read (Elt F) g2')
                  (s3.view.read (Elt F) g3')⌝
            ∗ (arg9.view.loc (c : Thread nD τ) ↦{fullShare} f9') ∗ (s0.view.loc (c : Thread nD τ) ↦{fullShare} g0')
            ∗ (s1.view.loc (c : Thread nD τ) ↦{fullShare} g1') ∗ (s2.view.loc (c : Thread nD τ) ↦{fullShare} g2')
            ∗ (s3.view.loc (c : Thread nD τ) ↦{fullShare} g3')) -∗ K ⟨⟩))
      ⊢ wp frame (wpE (defs₀ (F := F)) Variants.none c none) Set.univ
          (cc0__fused_body i arg1 harg1 arg2 harg2 arg3 harg3 arg4 harg4 arg5 harg5 arg6 harg6 arg7 harg7 arg8 harg8 arg9 harg9 s0 hs0 s1 hs1 s2 hs2 s3 hs3) K := by
  simp only [cc0__fused_body_eq_skeleton]; unfold cc0__fused_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  iintro ⟨H1, H2, H3, H4, H5, H6, H7, H8, H9, S0, S1, S2, S3, Hk⟩
  letI : ClosedOff (k0_off1 i) := ⟨![9600, 0], by rw [off1_eq, hj]⟩
  letI : ClosedOff (k0_off2 i) := ⟨![0, 0], by rw [off2_eq, hj]⟩
  letI : ClosedOff (k0_off3 i) := ⟨![400, 0], by rw [off3_eq, hj]⟩
  letI : ClosedOff (k0_off4 i) := ⟨![9200, 0], by rw [off4_eq i (by omega), hj]⟩
  letI : ClosedOff (k0_off6 i) := ⟨![9200, 0], by rw [off6_eq i (by omega), hj]⟩
  letI : ClosedOff (k0_off5 i 1#32) := ⟨![9201, 0], off5_at i 23 hj 1#32 0 1 rfl rfl⟩
  letI : ClosedOff (k0_off5 i 2#32) := ⟨![9202, 0], off5_at i 23 hj 2#32 1 2 rfl rfl⟩
  letI : ClosedOff (k0_off5 i 3#32) := ⟨![9203, 0], off5_at i 23 hj 3#32 2 3 rfl rfl⟩
  letI : ClosedOff (k0_off5 i 4#32) := ⟨![9204, 0], off5_at i 23 hj 4#32 3 4 rfl rfl⟩
  letI : ClosedOff (k0_off5 i 5#32) := ⟨![9205, 0], off5_at i 23 hj 5#32 4 5 rfl rfl⟩
  letI : ClosedOff (k0_off5 i 6#32) := ⟨![9206, 0], off5_at i 23 hj 6#32 5 6 rfl rfl⟩
  letI : ClosedOff (k0_off5 i 7#32) := ⟨![9207, 0], off5_at i 23 hj 7#32 6 7 rfl rfl⟩
  letI : ClosedOff (k0_off5 i 8#32) := ⟨![9208, 0], off5_at i 23 hj 8#32 7 8 rfl rfl⟩
  letI : ClosedOff (k0_off5 i 9#32) := ⟨![9209, 0], off5_at i 23 hj 9#32 8 9 rfl rfl⟩
  letI : ClosedOff (k0_off5 i 10#32) := ⟨![9210, 0], off5_at i 23 hj 10#32 9 10 rfl rfl⟩
  letI : ClosedOff (k0_off5 i 11#32) := ⟨![9211, 0], off5_at i 23 hj 11#32 10 11 rfl rfl⟩
  letI : ClosedOff (k0_off5 i 12#32) := ⟨![9212, 0], off5_at i 23 hj 12#32 11 12 rfl rfl⟩
  letI : ClosedOff (k0_off5 i 13#32) := ⟨![9213, 0], off5_at i 23 hj 13#32 12 13 rfl rfl⟩
  letI : ClosedOff (k0_off5 i 14#32) := ⟨![9214, 0], off5_at i 23 hj 14#32 13 14 rfl rfl⟩
  letI : ClosedOff (k0_off5 i 15#32) := ⟨![9215, 0], off5_at i 23 hj 15#32 14 15 rfl rfl⟩
  letI : ClosedOff (k0_off5 i 16#32) := ⟨![9216, 0], off5_at i 23 hj 16#32 15 16 rfl rfl⟩
  sl_exec
  sl_step
  have hI' := hI
  obtain h | ⟨hI0, hI1, hI2, hI3⟩ := hI
  · exact absurd h (by decide)
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _, _, _, _, _
  isplitr
  swap
  · isplitl [H9]; · iexact H9
    isplitl [S0]; · iexact S0
    isplitl [S1]; · iexact S1
    isplitl [S2]; · iexact S2
    iexact S3
  ipureintro
  have e3 : arg3.view.readAt (Elt F) (Rect.unit (s := S400x10000) ![0, 0] S400x10000.size inb_S400x10000_S400x10000_0_0).toLoadRect f3 = P.adj (i 0).val :=
    (readAt_full arg3.view f3 _).trans hf3
  have e4 : arg4.view.readAt (Elt F) (Rect.unit (s := S1x128) ![0, 0] S1x128.size inb_S1x128_S1x128_0_0).toLoadRect f4 = P.b0 :=
    (readAt_full arg4.view f4 _).trans hf4
  have e5 : arg5.view.readAt (Elt F) (Rect.unit (s := S128x128) ![0, 0] S128x128.size inb_S128x128_S128x128_0_0).toLoadRect f5 = P.wt :=
    (readAt_full arg5.view f5 _).trans hf5
  have e6 : arg6.view.readAt (Elt F) (Rect.unit (s := S128x128) ![0, 0] S128x128.size inb_S128x128_S128x128_0_0).toLoadRect f6 = P.wb :=
    (readAt_full arg6.view f6 _).trans hf6
  have e7 : arg7.view.readAt (Elt F) (Rect.unit (s := S128x16) ![0, 0] S128x16.size inb_S128x16_S128x16_0_0).toLoadRect f7 = P.w1 :=
    (readAt_full arg7.view f7 _).trans hf7
  have e8 : arg8.view.readAt (Elt F) (Rect.unit (s := S1x16) ![0, 0] S1x16.size inb_S1x16_S1x16_0_0).toLoadRect f8 = P.b1 :=
    (readAt_full arg8.view f8 _).trans hf8
  rw [hj] at e3
  have e0 : s0.view.readAt (Elt F) (Rect.unit (s := S10000x128) ![0, 0] S10000x128.size inb_S10000x128_S10000x128_0_0).toLoadRect g0
      = sup P := (readAt_full s0.view g0 _).trans hI0
  have hw1 : k0_pay30 (arg3.view.readAt (Elt F) (Rect.unit (s := S400x10000) ![0, 0] S400x10000.size inb_S400x10000_S400x10000_0_0).toLoadRect f3)
      (s0.view.readAt (Elt F) (Rect.unit (s := S10000x128) ![0, 0] S10000x128.size inb_S10000x128_S10000x128_0_0).toLoadRect g0)
      (arg4.view.readAt (Elt F) (Rect.unit (s := S1x128) ![0, 0] S1x128.size inb_S1x128_S1x128_0_0).toLoadRect f4) = hB P (24) := by
    rw [e3, e0, e4, pay30_eq]; rfl
  have hw2 : k0_pay31 (arg3.view.readAt (Elt F) (Rect.unit (s := S400x10000) ![0, 0] S400x10000.size inb_S400x10000_S400x10000_0_0).toLoadRect f3)
      (s0.view.readAt (Elt F) (Rect.unit (s := S10000x128) ![0, 0] S10000x128.size inb_S10000x128_S10000x128_0_0).toLoadRect g0)
      (arg4.view.readAt (Elt F) (Rect.unit (s := S1x128) ![0, 0] S1x128.size inb_S1x128_S1x128_0_0).toLoadRect f4)
      (arg6.view.readAt (Elt F) (Rect.unit (s := S128x128) ![0, 0] S128x128.size inb_S128x128_S128x128_0_0).toLoadRect f6) = bB P (24) := by
    rw [e3, e0, e4, e6, pay31_eq]; rfl
  have hw3 : k0_pay1 (run_last.sl.r_2 c arg3 arg4 arg5 s0 f3 f4 f5 g0) = aB P (24) := by
    rw [pay1_eq]; unfold run_last.sl.r_2; rw [e3, e0, e4, e5]; rfl
  have hS1 : ∀ y : S10016x128.Idx, (y 0).val < 400 * (24 + 1) ∨ 10000 ≤ (y 0).val →
      s1.view.read (Elt F) (s1.view.writes (Elt F) g1 (run_last.sl.S1_1 c i arg3 arg4 s0 f3 f4 g0)) y = HX P (y 0).val (y 1) :=
    keep_block s1.view g1 (hB P) (24) (by omega) (k0_off1_inb i) (by rw [off1_eq, hj]) _ hw1 hI1
  have hS2 : ∀ y : S10016x128.Idx, (y 0).val < 400 * (24 + 1) ∨ 10000 ≤ (y 0).val →
      s2.view.read (Elt F) (s2.view.writes (Elt F) g2 (run_last.sl.S2_1 c i arg3 arg4 arg6 s0 f3 f4 f6 g0)) y
        = BX P (y 0).val (y 1) :=
    keep_block s2.view g2 (bB P) (24) (by omega) (k0_off1_inb i) (by rw [off1_eq, hj]) _ hw2 hI2
  have hS3 : ∀ (y : S800x128.Idx) (p : S400x128.Idx), (y 0).val = (24) % 2 * 400 + (p 0).val → (y 1).val = (p 1).val →
      s3.view.read (Elt F) (s3.view.writes (Elt F) g3 (run_last.sl.S3_1 c i arg3 arg4 arg5 s0 f3 f4 f5 g0)) y = aB P (24) p :=
    hw3 ▸ slot_store s3.view g3 (24) (k0_off2_inb i) (by rw [off2_eq, hj]) _
  have q1 : ∀ {off : Fin 2 → ℕ} (o : ℕ) (inb : ∀ a : Fin 2, off a + S400x128.size a ≤ S10016x128.size a)
      (hoff : off = ![o, 0]) (ho : o + 400 ≤ 400 * (24 + 1)),
      s1.view.readAt (Elt F) (Rect.unit (s := S10016x128) off S400x128.size inb).toLoadRect
        (s1.view.writes (Elt F) g1 (run_last.sl.S1_1 c i arg3 arg4 s0 f3 f4 g0)) = blk (HX P) o :=
    fun o inb hoff ho => readAt_blk s1.view _ _ o inb hoff fun y h1 h2 => hS1 y (.inl (by omega))
  have q2 : ∀ {off : Fin 2 → ℕ} (o : ℕ) (inb : ∀ a : Fin 2, off a + S400x128.size a ≤ S10016x128.size a)
      (hoff : off = ![o, 0]) (ho : o + 400 ≤ 400 * (24 + 1)),
      s2.view.readAt (Elt F) (Rect.unit (s := S10016x128) off S400x128.size inb).toLoadRect
        (s2.view.writes (Elt F) g2 (run_last.sl.S2_1 c i arg3 arg4 arg6 s0 f3 f4 f6 g0)) = blk (BX P) o :=
    fun o inb hoff ho => readAt_blk s2.view _ _ o inb hoff fun y h1 h2 => hS2 y (.inl (by omega))
  have qh : run_last.sl.v72 c i s1 g1 h3 = blk (HX P) (23 * 400) :=
    readAt_blk s1.view g1 _ (23 * 400) (k0_off4_inb i h3) (by rw [off4_eq i (by omega), hj])
      fun y h1 h2 => hI1 y (.inl (by omega))
  have a1 : ∀ {off : Fin 2 → ℕ} (o : ℕ) (inb : ∀ a : Fin 2, off a + S400x128.size a ≤ S10016x128.size a)
      (hoff : off = ![o, 0]),
      s1.view.readAt (Elt F) (Rect.unit (s := S10016x128) off S400x128.size inb).toLoadRect
        (s1.view.writes (Elt F) g1 (run_last.sl.S1_1 c i arg3 arg4 s0 f3 f4 g0)) = blk (HX P) o :=
    fun o inb hoff => readAt_blk s1.view _ _ o inb hoff fun y h1 h2 => hS1 y (by omega)
  have a2 : ∀ {off : Fin 2 → ℕ} (o : ℕ) (inb : ∀ a : Fin 2, off a + S400x128.size a ≤ S10016x128.size a)
      (hoff : off = ![o, 0]),
      s2.view.readAt (Elt F) (Rect.unit (s := S10016x128) off S400x128.size inb).toLoadRect
        (s2.view.writes (Elt F) g2 (run_last.sl.S2_1 c i arg3 arg4 arg6 s0 f3 f4 f6 g0)) = blk (BX P) o :=
    fun o inb hoff => readAt_blk s2.view _ _ o inb hoff fun y h1 h2 => hS2 y (by omega)
  have qa : s3.view.readAt (Elt F) (Rect.unit (s := S800x128) (k0_off3 i) S400x128.size (k0_off3_inb i h3)).toLoadRect g3 = aB P 23 := by
    funext x
    have hx : (x 0).val < 400 := (x 0).isLt
    exact (readAt_rows s3.view g3 (k0_off3_inb i h3) (by rw [off3_eq, hj]) x (ix2 ⟨400 + (x 0).val, by omega⟩ ⟨(x 1).val, (x 1).isLt⟩) rfl rfl).trans
      (hI3 _ x rfl rfl)
  rw [hj]
  refine ⟨?_, .inr ⟨hI0, hS1, hS2, hS3⟩⟩
  rw [show rowsDone 24 = 400 * (24 + 1) from rfl]
  have qa' : run_last.sl.v56_1 c i arg3 arg4 arg5 s0 s3 f3 f4 f5 g0 = aB P 24 :=
    (read_back s3.view s3.view.junk 0 (k0_off2_inb i) (by rw [off2_eq, hj]) inb_S800x128_S400x128_0_0 rfl _).trans hw3
  have qh' : run_last.sl.v57_1 c i arg3 arg4 s0 s1 f3 f4 g0 = blk (HX P) (24 * 400) :=
    ((read_back s1.view s1.view.junk 9600 (k0_off1_inb i) (by rw [off1_eq, hj]) inb_S10016x128_S400x128_9600_0 rfl _).trans hw1).trans
      (blk_rowsOf (hB P) 24 (by omega)).symm
  refine out_store P arg9.view f9 24 _ rfl _ ?_ _ (out_store P arg9.view f9 23 (k0_off6_inb i h3) (by rw [off6_eq i (by omega), hj]) _ ?_ [] h9)
  · unfold run_last.sl.r_30 run_last.sl.r_29 run_last.sl.r_28 run_last.sl.r_27 run_last.sl.r_26 run_last.sl.r_25 run_last.sl.r_24 run_last.sl.r_23 run_last.sl.r_22
    rw [
      a2 (24 * 400 + 1) inb_S10016x128_S400x128_9601_0 rfl, a1 (24 * 400 + 1) inb_S10016x128_S400x128_9601_0 rfl,
      a2 (24 * 400 + 2) inb_S10016x128_S400x128_9602_0 rfl, a1 (24 * 400 + 2) inb_S10016x128_S400x128_9602_0 rfl,
      a2 (24 * 400 + 3) inb_S10016x128_S400x128_9603_0 rfl, a1 (24 * 400 + 3) inb_S10016x128_S400x128_9603_0 rfl,
      a2 (24 * 400 + 4) inb_S10016x128_S400x128_9604_0 rfl, a1 (24 * 400 + 4) inb_S10016x128_S400x128_9604_0 rfl,
      a2 (24 * 400 + 5) inb_S10016x128_S400x128_9605_0 rfl, a1 (24 * 400 + 5) inb_S10016x128_S400x128_9605_0 rfl,
      a2 (24 * 400 + 6) inb_S10016x128_S400x128_9606_0 rfl, a1 (24 * 400 + 6) inb_S10016x128_S400x128_9606_0 rfl,
      a2 (24 * 400 + 7) inb_S10016x128_S400x128_9607_0 rfl, a1 (24 * 400 + 7) inb_S10016x128_S400x128_9607_0 rfl,
      a2 (24 * 400 + 8) inb_S10016x128_S400x128_9608_0 rfl, a1 (24 * 400 + 8) inb_S10016x128_S400x128_9608_0 rfl,
      a2 (24 * 400 + 9) inb_S10016x128_S400x128_9609_0 rfl, a1 (24 * 400 + 9) inb_S10016x128_S400x128_9609_0 rfl,
      a2 (24 * 400 + 10) inb_S10016x128_S400x128_9610_0 rfl, a1 (24 * 400 + 10) inb_S10016x128_S400x128_9610_0 rfl,
      a2 (24 * 400 + 11) inb_S10016x128_S400x128_9611_0 rfl, a1 (24 * 400 + 11) inb_S10016x128_S400x128_9611_0 rfl,
      a2 (24 * 400 + 12) inb_S10016x128_S400x128_9612_0 rfl, a1 (24 * 400 + 12) inb_S10016x128_S400x128_9612_0 rfl,
      a2 (24 * 400 + 13) inb_S10016x128_S400x128_9613_0 rfl, a1 (24 * 400 + 13) inb_S10016x128_S400x128_9613_0 rfl,
      a2 (24 * 400 + 14) inb_S10016x128_S400x128_9614_0 rfl, a1 (24 * 400 + 14) inb_S10016x128_S400x128_9614_0 rfl,
      a2 (24 * 400 + 15) inb_S10016x128_S400x128_9615_0 rfl, a1 (24 * 400 + 15) inb_S10016x128_S400x128_9615_0 rfl,
      a2 (24 * 400 + 16) inb_S10016x128_S400x128_9616_0 rfl, a1 (24 * 400 + 16) inb_S10016x128_S400x128_9616_0 rfl,

      qa', qh', e7, e8]
    rfl
  · unfold run_last.sl.r_21 run_last.sl.r_20 run_last.sl.r_19 run_last.sl.r_18 run_last.sl.r_17 run_last.sl.r_16 run_last.sl.r_15 run_last.sl.r_14 run_last.sl.r_13 run_last.sl.r_12 run_last.sl.r_11 run_last.sl.r_10 run_last.sl.r_9 run_last.sl.r_8 run_last.sl.r_7 run_last.sl.r_6 run_last.sl.r_5 run_last.sl.r_4 run_last.sl.r_3 run_last.sl.v70
    rw [
      q2 (23 * 400 + 1) _ (off5_at i 23 hj 1#32 0 1 rfl rfl) (by omega), q1 (23 * 400 + 1) _ (off5_at i 23 hj 1#32 0 1 rfl rfl) (by omega),
      q2 (23 * 400 + 2) _ (off5_at i 23 hj 2#32 1 2 rfl rfl) (by omega), q1 (23 * 400 + 2) _ (off5_at i 23 hj 2#32 1 2 rfl rfl) (by omega),
      q2 (23 * 400 + 3) _ (off5_at i 23 hj 3#32 2 3 rfl rfl) (by omega), q1 (23 * 400 + 3) _ (off5_at i 23 hj 3#32 2 3 rfl rfl) (by omega),
      q2 (23 * 400 + 4) _ (off5_at i 23 hj 4#32 3 4 rfl rfl) (by omega), q1 (23 * 400 + 4) _ (off5_at i 23 hj 4#32 3 4 rfl rfl) (by omega),
      q2 (23 * 400 + 5) _ (off5_at i 23 hj 5#32 4 5 rfl rfl) (by omega), q1 (23 * 400 + 5) _ (off5_at i 23 hj 5#32 4 5 rfl rfl) (by omega),
      q2 (23 * 400 + 6) _ (off5_at i 23 hj 6#32 5 6 rfl rfl) (by omega), q1 (23 * 400 + 6) _ (off5_at i 23 hj 6#32 5 6 rfl rfl) (by omega),
      q2 (23 * 400 + 7) _ (off5_at i 23 hj 7#32 6 7 rfl rfl) (by omega), q1 (23 * 400 + 7) _ (off5_at i 23 hj 7#32 6 7 rfl rfl) (by omega),
      q2 (23 * 400 + 8) _ (off5_at i 23 hj 8#32 7 8 rfl rfl) (by omega), q1 (23 * 400 + 8) _ (off5_at i 23 hj 8#32 7 8 rfl rfl) (by omega),
      q2 (23 * 400 + 9) _ (off5_at i 23 hj 9#32 8 9 rfl rfl) (by omega), q1 (23 * 400 + 9) _ (off5_at i 23 hj 9#32 8 9 rfl rfl) (by omega),
      q2 (23 * 400 + 10) _ (off5_at i 23 hj 10#32 9 10 rfl rfl) (by omega), q1 (23 * 400 + 10) _ (off5_at i 23 hj 10#32 9 10 rfl rfl) (by omega),
      q2 (23 * 400 + 11) _ (off5_at i 23 hj 11#32 10 11 rfl rfl) (by omega), q1 (23 * 400 + 11) _ (off5_at i 23 hj 11#32 10 11 rfl rfl) (by omega),
      q2 (23 * 400 + 12) _ (off5_at i 23 hj 12#32 11 12 rfl rfl) (by omega), q1 (23 * 400 + 12) _ (off5_at i 23 hj 12#32 11 12 rfl rfl) (by omega),
      q2 (23 * 400 + 13) _ (off5_at i 23 hj 13#32 12 13 rfl rfl) (by omega), q1 (23 * 400 + 13) _ (off5_at i 23 hj 13#32 12 13 rfl rfl) (by omega),
      q2 (23 * 400 + 14) _ (off5_at i 23 hj 14#32 13 14 rfl rfl) (by omega), q1 (23 * 400 + 14) _ (off5_at i 23 hj 14#32 13 14 rfl rfl) (by omega),
      q2 (23 * 400 + 15) _ (off5_at i 23 hj 15#32 14 15 rfl rfl) (by omega), q1 (23 * 400 + 15) _ (off5_at i 23 hj 15#32 14 15 rfl rfl) (by omega),
      q2 (23 * 400 + 16) _ (off5_at i 23 hj 16#32 15 16 rfl rfl) (by omega), q1 (23 * 400 + 16) _ (off5_at i 23 hj 16#32 15 16 rfl rfl) (by omega),
      qa, qh, e7, e8]
    rfl

end Cert.KernelIdeal.Hand
end
-- ==== Proof.Run.lean ====
module

public import proofs.«01_k».proof.Proof.Body
public import Idealize.ShloMosaic.Lib.Pipeline.FrameBody
public import Idealize.ShloMosaic.Lib.Pipeline.ArrRel

@[expose] public section

/-!
# The whole run

The body's three cases joined into one statement for every grid point, the launch that carries the scratch buffers from
point to point, and what the memory holds when the program ends.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Pipeline (RDat)

variable {F : FTy → Type} [FloatOps F] [∀ e, Nonempty (Elt F e)]

local notation "𝕄" => MT nD τ sig Unit (Elt F) ℕ (UR sig nD τ) ℕ

/-- Owning a whole memref at contents `X` is holding its buffer at some contents that read as `X`. -/
theorem owns_pts (c : Dev nD) {sp : Space} {s : Shape} {e : EltTy} (a : Memref sig .tc sp s e) (h : a.IsWhole)
    (X : s.Idx → Elt F e) :
    (owns (c : Thread nD τ) a fullShare X : sProp 𝕄)
      = iprop(∃ f, ⌜a.view.read (Elt F) f = X⌝ ∗ (a.view.loc (c : Thread nD τ) ↦{fullShare} f)) := by
  unfold owns; rw [h.set_eq_univ]

/-- The grid is a line: a point's coordinate is its number. -/
theorem coord_eq : ∀ t : Fin grid0.N, (grid0.coords t 0).val = t.val := by decide
/-- The first branch runs at the first point only. -/
theorem cond1_iff : ∀ t : Fin grid0.N,
    Scalar.cmpi .ne (Scalar.extui (Scalar.cmpi .eq (BitVec.ofNat 32 (grid0.coords t 0).val) 0#32) : BitVec 32) 0#32 = 1#1
      ↔ t.val = 0 := by decide
/-- The branch that combines the previous point's rows runs at every point but the first. -/
theorem cond3_iff : ∀ t : Fin grid0.N, k0_cond3 (grid0.coords t) = 1#1 ↔ t.val ≠ 0 := by decide
/-- The branch that combines the last rows runs at the last point only. -/
theorem cond4_iff : ∀ t : Fin grid0.N, k0_cond4 (grid0.coords t) = 1#1 ↔ t.val = 24 := by decide

/-- One grid point, in terms of owned memrefs: with the inputs' blocks in their buffers, the result rows stored so far right
and the scratch as `Inv` says, the body leaves the same of the next point. -/
theorem run_point (c : Dev nD) (t : Fin grid0.N)
    (arg1 : Memref sig .tc .vmem S10000x128 .f32) (harg1 : arg1.IsWhole)
    (arg2 : Memref sig .tc .vmem S128x128 .f32) (harg2 : arg2.IsWhole)
    (arg3 : Memref sig .tc .vmem S400x10000 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x16 .f32) (harg7 : arg7.IsWhole)
    (arg8 : Memref sig .tc .vmem S1x16 .f32) (harg8 : arg8.IsWhole)
    (arg9 : Memref sig .tc .vmem S10000x16 .f32) (harg9 : arg9.IsWhole)
    (s0 : Memref sig .tc .vmem S10000x128 .f32) (hs0 : s0.IsWhole)
    (s1 : Memref sig .tc .vmem S10016x128 .f32) (hs1 : s1.IsWhole)
    (s2 : Memref sig .tc .vmem S10016x128 .f32) (hs2 : s2.IsWhole)
    (s3 : Memref sig .tc .vmem S800x128 .f32) (hs3 : s3.IsWhole)
    (P : Ins F) (Y : Vec F S10000x16 .f32) (X0 : Vec F S10000x128 .f32) (X1 X2 : Vec F S10016x128 .f32) (X3 : Vec F S800x128 .f32)
    (hY : t.val ≠ 0 → OutOk P (rowsDone (t.val - 1)) Y) (hI : Inv P t.val X0 X1 X2 X3)
    (K : PUnit → sProp 𝕄) :
    iprop(owns (c : Thread nD τ) arg1 fullShare P.x ∗ owns (c : Thread nD τ) arg2 fullShare P.w0 ∗ owns (c : Thread nD τ) arg3 fullShare (P.adj t.val) ∗ owns (c : Thread nD τ) arg4 fullShare P.b0 ∗ owns (c : Thread nD τ) arg5 fullShare P.wt ∗ owns (c : Thread nD τ) arg6 fullShare P.wb ∗ owns (c : Thread nD τ) arg7 fullShare P.w1 ∗ owns (c : Thread nD τ) arg8 fullShare P.b1
        ∗ owns (c : Thread nD τ) arg9 fullShare Y ∗ owns (c : Thread nD τ) s0 fullShare X0 ∗ owns (c : Thread nD τ) s1 fullShare X1 ∗ owns (c : Thread nD τ) s2 fullShare X2 ∗ owns (c : Thread nD τ) s3 fullShare X3
        ∗ ((owns (c : Thread nD τ) arg1 fullShare P.x ∗ owns (c : Thread nD τ) arg2 fullShare P.w0 ∗ owns (c : Thread nD τ) arg3 fullShare (P.adj t.val) ∗ owns (c : Thread nD τ) arg4 fullShare P.b0 ∗ owns (c : Thread nD τ) arg5 fullShare P.wt ∗ owns (c : Thread nD τ) arg6 fullShare P.wb ∗ owns (c : Thread nD τ) arg7 fullShare P.w1 ∗ owns (c : Thread nD τ) arg8 fullShare P.b1
          ∗ ∃ Y' X0' X1' X2' X3', ⌜OutOk P (rowsDone t.val) Y' ∧ Inv P (t.val + 1) X0' X1' X2' X3'⌝
            ∗ owns (c : Thread nD τ) arg9 fullShare Y' ∗ owns (c : Thread nD τ) s0 fullShare X0' ∗ owns (c : Thread nD τ) s1 fullShare X1' ∗ owns (c : Thread nD τ) s2 fullShare X2' ∗ owns (c : Thread nD τ) s3 fullShare X3') -∗ K ⟨⟩))
      ⊢ wp frame (wpE (defs₀ (F := F)) Variants.none c none) Set.univ
          (cc0__fused_body (grid0.coords t) arg1 harg1 arg2 harg2 arg3 harg3 arg4 harg4 arg5 harg5 arg6 harg6 arg7 harg7 arg8 harg8 arg9 harg9 s0 hs0 s1 hs1 s2 hs2 s3 hs3) K := by
  have hN : t.val < 25 := lt_of_lt_of_eq t.isLt N_0
  have hc := coord_eq t
  simp only [owns_pts c arg1 harg1, owns_pts c arg2 harg2, owns_pts c arg3 harg3, owns_pts c arg4 harg4, owns_pts c arg5 harg5, owns_pts c arg6 harg6, owns_pts c arg7 harg7, owns_pts c arg8 harg8, owns_pts c arg9 harg9, owns_pts c s0 hs0, owns_pts c s1 hs1, owns_pts c s2 hs2, owns_pts c s3 hs3]
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, S0⟩, ⟨%g1, %hg1, S1⟩, ⟨%g2, %hg2, S2⟩, ⟨%g3, %hg3, S3⟩, Hk⟩
  subst hf9 hg0 hg1 hg2 hg3
  have key : iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (s0.view.loc (c : Thread nD τ) ↦{fullShare} g0) ∗ (s1.view.loc (c : Thread nD τ) ↦{fullShare} g1) ∗ (s2.view.loc (c : Thread nD τ) ↦{fullShare} g2) ∗ (s3.view.loc (c : Thread nD τ) ↦{fullShare} g3)
        ∗ (((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8)
          ∗ ∃ f9' g0' g1' g2' g3',
            ⌜OutOk P (rowsDone (grid0.coords t 0).val) (arg9.view.read (Elt F) f9')
              ∧ Inv P ((grid0.coords t 0).val + 1) (s0.view.read (Elt F) g0') (s1.view.read (Elt F) g1') (s2.view.read (Elt F) g2')
                  (s3.view.read (Elt F) g3')⌝
            ∗ (arg9.view.loc (c : Thread nD τ) ↦{fullShare} f9') ∗ (s0.view.loc (c : Thread nD τ) ↦{fullShare} g0') ∗ (s1.view.loc (c : Thread nD τ) ↦{fullShare} g1') ∗ (s2.view.loc (c : Thread nD τ) ↦{fullShare} g2') ∗ (s3.view.loc (c : Thread nD τ) ↦{fullShare} g3')) -∗ K ⟨⟩))
      ⊢ wp frame (wpE (defs₀ (F := F)) Variants.none c none) Set.univ
          (cc0__fused_body (grid0.coords t) arg1 harg1 arg2 harg2 arg3 harg3 arg4 harg4 arg5 harg5 arg6 harg6 arg7 harg7 arg8 harg8 arg9 harg9 s0 hs0 s1 hs1 s2 hs2 s3 hs3) K := by
    by_cases h0 : t.val = 0
    · exact run_first c (grid0.coords t) arg1 harg1 arg2 harg2 arg3 harg3 arg4 harg4 arg5 harg5 arg6 harg6 arg7 harg7 arg8 harg8 arg9 harg9 s0 hs0 s1 hs1 s2 hs2 s3 hs3 f1 f2 f3 f4 f5 f6 f7 f8 f9 g0 g1 g2 g3 P (hc.trans h0) ((cond1_iff t).mpr h0)
        (fun h => (cond3_iff t).mp h h0) (fun h => absurd ((cond4_iff t).mp h) (by omega)) hf1 hf2 (by rw [hc]; exact hf3) hf4 hf5 hf6 hf7 hf8 K
    by_cases h24 : t.val = 24
    · exact run_last c (grid0.coords t) arg1 harg1 arg2 harg2 arg3 harg3 arg4 harg4 arg5 harg5 arg6 harg6 arg7 harg7 arg8 harg8 arg9 harg9 s0 hs0 s1 hs1 s2 hs2 s3 hs3 f1 f2 f3 f4 f5 f6 f7 f8 f9 g0 g1 g2 g3 P (hc.trans h24) (fun h => h0 ((cond1_iff t).mp h))
        ((cond3_iff t).mpr h0) ((cond4_iff t).mpr h24)
        (by have e := hY h0; rw [h24] at e; exact e) (by have e := hI; rw [h24] at e; exact e) hf1 hf2 (by rw [hc]; exact hf3) hf4 hf5 hf6 hf7 hf8 K
    · exact run_mid c (grid0.coords t) arg1 harg1 arg2 harg2 arg3 harg3 arg4 harg4 arg5 harg5 arg6 harg6 arg7 harg7 arg8 harg8 arg9 harg9 s0 hs0 s1 hs1 s2 hs2 s3 hs3 f1 f2 f3 f4 f5 f6 f7 f8 f9 g0 g1 g2 g3 P (t.val - 1) (hc.trans (by omega)) (by omega) (fun h => h0 ((cond1_iff t).mp h))
        ((cond3_iff t).mpr h0) (fun h => h24 ((cond4_iff t).mp h))
        (by have e := hY h0; rw [show rowsDone (t.val - 1) = 400 * (t.val - 1) from if_neg (by omega)] at e; exact e)
        (by rw [show t.val - 1 + 1 = t.val by omega]; exact hI) hf1 hf2 (by rw [hc]; exact hf3) hf4 hf5 hf6 hf7 hf8 K
  iapply key
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  iintro ⟨H1, H2, H3, H4, H5, H6, H7, H8, %f9', %g0', %g1', %g2', %g3', %hq, H9, S0, S1, S2, S3⟩
  rw [hc] at hq
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  iexists _, _, _, _, _; isplitr; · ipureintro; exact hq
  isplitl [H9]
  · iexists f9'; isplitr; · ipureintro; exact rfl
    iexact H9
  isplitl [S0]
  · iexists g0'; isplitr; · ipureintro; exact rfl
    iexact S0
  isplitl [S1]
  · iexists g1'; isplitr; · ipureintro; exact rfl
    iexact S1
  isplitl [S2]
  · iexists g2'; isplitr; · ipureintro; exact rfl
    iexact S2
  iexists g3'; isplitr; · ipureintro; rfl
  iexact S3

/-! ## The launch -/

variable (m : (ℓ : Loc nD τ sig) → Buf (Elt F) ℓ) (ρ : Dev nD → PrngReg)

/-- What the pipeline feeds the body on core `c`: the arrays as the host operations before it left them, the adjacency
matrix cut into blocks of 400 rows. -/
def ins (c : Dev nD) : Ins F where
  x := V m c main_arg0
  w0 := V m c main_arg2
  adj j := fun p => V m c main_arg1 (ix2 ⟨400 * (j % 25) + (p 0).val, by
    have h : (p 0).val < 400 := (p 0).isLt
    have := Nat.mod_lt j (show 0 < 25 by decide); omega⟩ (p 1))
  b0 := V m c main_v0
  wt := V m c main_v2
  wb := V m c main_v3
  w1 := V m c main_arg4
  b1 := V m c main_v1

/-- Window 0's block is its whole array at every point. -/
theorem iblk0_eq (c : Dev nD) (t : Fin cfg0.N) : iblk m c 0 t = (ins m c).x := by
  have h0 : win0_0.index t (0 : Fin 2) = 0 := rfl
  have h1 : win0_0.index t (1 : Fin 2) = 0 := rfl
  funext j
  show V m c main_arg0 (((cfg0.win 0).blk t).view.emb j) = V m c main_arg0 j
  congr 1
  funext a
  apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- Window 1's block is its whole array at every point. -/
theorem iblk1_eq (c : Dev nD) (t : Fin cfg0.N) : iblk m c 1 t = (ins m c).w0 := by
  have h0 : win0_1.index t (0 : Fin 2) = 0 := rfl
  have h1 : win0_1.index t (1 : Fin 2) = 0 := rfl
  funext j
  show V m c main_arg2 (((cfg0.win 1).blk t).view.emb j) = V m c main_arg2 j
  congr 1
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- Window 3's block is its whole array at every point. -/
theorem iblk3_eq (c : Dev nD) (t : Fin cfg0.N) : iblk m c 3 t = (ins m c).b0 := by
  have h0 : win0_3.index t (0 : Fin 2) = 0 := rfl
  have h1 : win0_3.index t (1 : Fin 2) = 0 := rfl
  funext j
  show V m c main_v0 (((cfg0.win 3).blk t).view.emb j) = V m c main_v0 j
  congr 1
  funext a
  apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- Window 4's block is its whole array at every point. -/
theorem iblk4_eq (c : Dev nD) (t : Fin cfg0.N) : iblk m c 4 t = (ins m c).wt := by
  have h0 : win0_4.index t (0 : Fin 2) = 0 := rfl
  have h1 : win0_4.index t (1 : Fin 2) = 0 := rfl
  funext j
  show V m c main_v2 (((cfg0.win 4).blk t).view.emb j) = V m c main_v2 j
  congr 1
  funext a
  apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- Window 5's block is its whole array at every point. -/
theorem iblk5_eq (c : Dev nD) (t : Fin cfg0.N) : iblk m c 5 t = (ins m c).wb := by
  have h0 : win0_5.index t (0 : Fin 2) = 0 := rfl
  have h1 : win0_5.index t (1 : Fin 2) = 0 := rfl
  funext j
  show V m c main_v3 (((cfg0.win 5).blk t).view.emb j) = V m c main_v3 j
  congr 1
  funext a
  apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega

/-- Window 6's block is its whole array at every point. -/
theorem iblk6_eq (c : Dev nD) (t : Fin cfg0.N) : iblk m c 6 t = (ins m c).w1 := by
  have h0 : win0_6.index t (0 : Fin 2) = 0 := rfl
  have h1 : win0_6.index t (1 : Fin 2) = 0 := rfl
  funext j
  show V m c main_arg4 (((cfg0.win 6).blk t).view.emb j) = V m c main_arg4 j
  congr 1
  funext a
  apply Fin.ext
  match a with
  | ⟨0, _⟩ => show win0_6.index t (0 : Fin 2) * 128 + 1 * (j 0).val = (j 0).val; omega
  | ⟨1, _⟩ => show win0_6.index t (1 : Fin 2) * 16 + 1 * (j 1).val = (j 1).val; omega

/-- Window 7's block is its whole array at every point. -/
theorem iblk7_eq (c : Dev nD) (t : Fin cfg0.N) : iblk m c 7 t = (ins m c).b1 := by
  have h0 : win0_7.index t (0 : Fin 2) = 0 := rfl
  have h1 : win0_7.index t (1 : Fin 2) = 0 := rfl
  funext j
  show V m c main_v1 (((cfg0.win 7).blk t).view.emb j) = V m c main_v1 j
  congr 1
  funext a
  apply Fin.ext
  match a with
  | ⟨0, _⟩ => show win0_7.index t (0 : Fin 2) * 1 + 1 * (j 0).val = (j 0).val; omega
  | ⟨1, _⟩ => show win0_7.index t (1 : Fin 2) * 16 + 1 * (j 1).val = (j 1).val; omega

/-- The adjacency window's block index is the point's number. -/
theorem index2 : ∀ t : Fin grid0.N, win0_2.index t (0 : Fin 2) = t.val := by decide

/-- Window 2's block at point `t` is rows `400 t …` of the adjacency matrix. -/
theorem iblk2_eq (c : Dev nD) (t : Fin cfg0.N) : iblk m c 2 t = (ins m c).adj t.val := by
  have h0 : win0_2.index t (0 : Fin 2) = t.val := index2 t
  have h1 : win0_2.index t (1 : Fin 2) = 0 := rfl
  have hN : t.val < 25 := lt_of_lt_of_eq t.isLt N_0
  funext j
  show V m c main_arg1 (((cfg0.win 2).blk t).view.emb j) = V m c main_arg1 (ix2 _ _)
  congr 1
  funext a
  apply Fin.ext
  match a with
  | ⟨0, _⟩ =>
    show win0_2.index t (0 : Fin 2) * 400 + 1 * (j 0).val = 400 * (t.val % 25) + (j 0).val
    rw [Nat.mod_eq_of_lt hN]; omega
  | ⟨1, _⟩ => show win0_2.index t (1 : Fin 2) * 10000 + 1 * (j 1).val = (j 1).val; omega

/-- What the body may leave in a window's buffer: an input as found, the result with its finished rows right. -/
def afterRel (c : Dev nD) : (w : Fin cfg0.W) → Fin cfg0.N →
    (Y X : (cfg0.win w).block.Idx → Elt F (cfg0.win w).elt) → Prop
  | 8, t => fun _ X => OutOk (ins m c) (rowsDone t.val) X
  | _, _ => fun Y X => X = Y

/-- What the scratch buffers hold before point `t`. -/
def scratchInv (c : Dev nD) (t : ℕ) : sProp 𝕄 :=
  iprop(∃ X0 X1 X2 X3, ⌜Inv (ins m c) t X0 X1 X2 X3⌝
    ∗ owns (c : Thread nD τ) (Memref.whole cc0_scratch0) fullShare X0 ∗ owns (c : Thread nD τ) (Memref.whole cc0_scratch1) fullShare X1
    ∗ owns (c : Thread nD τ) (Memref.whole cc0_scratch2) fullShare X2 ∗ owns (c : Thread nD τ) (Memref.whole cc0_scratch3) fullShare X3)

/-- The launch's proof data on core `c`. -/
def rdat (c : Dev nD) : RDat τ (Elt F) Unit ℕ (UR sig nD τ) ℕ cfg0 c where
  A w := V m c (Pipeline.arrRef spec0 w)
  after := afterRel m c
  Φ t := iprop(scratchInv m c t.val ∗ ∃ r, prngReg c r)
  q _ := fullShare
  owed _ := 0

/-- What the body finds in window 0: the features. -/
theorem finds0 (c : Dev nD) (t : Fin cfg0.N) (Y) (h : (rdat m c).Finds 0 t Y) : Y = (ins m c).x := by
  obtain ⟨d, hd⟩ := (rdat m c).finds_in_eq_fetched 0 rfl (fun _ _ _ => rfl) (fun _ _ _ h => h) t Y h
  exact hd.trans ((show (rdat m c).fetched 0 t d = iblk m c 0 t by unfold RDat.fetched RDat.blockOf iblk; rfl).trans (iblk0_eq m c t))

/-- What the body finds in window 1: the first weights. -/
theorem finds1 (c : Dev nD) (t : Fin cfg0.N) (Y) (h : (rdat m c).Finds 1 t Y) : Y = (ins m c).w0 := by
  obtain ⟨d, hd⟩ := (rdat m c).finds_in_eq_fetched 1 rfl (fun _ _ _ => rfl) (fun _ _ _ h => h) t Y h
  exact hd.trans ((show (rdat m c).fetched 1 t d = iblk m c 1 t by unfold RDat.fetched RDat.blockOf iblk; rfl).trans (iblk1_eq m c t))

/-- What the body finds in window 2: the point's 400 rows of the adjacency matrix. -/
theorem finds2 (c : Dev nD) (t : Fin cfg0.N) (Y) (h : (rdat m c).Finds 2 t Y) : Y = (ins m c).adj t.val := by
  obtain ⟨d, hd⟩ := (rdat m c).finds_in_eq_fetched 2 rfl (fun _ _ _ => rfl) (fun _ _ _ h => h) t Y h
  exact hd.trans ((show (rdat m c).fetched 2 t d = iblk m c 2 t by unfold RDat.fetched RDat.blockOf iblk; rfl).trans (iblk2_eq m c t))

/-- What the body finds in window 3: the first bias. -/
theorem finds3 (c : Dev nD) (t : Fin cfg0.N) (Y) (h : (rdat m c).Finds 3 t Y) : Y = (ins m c).b0 := by
  obtain ⟨d, hd⟩ := (rdat m c).finds_in_eq_fetched 3 rfl (fun _ _ _ => rfl) (fun _ _ _ h => h) t Y h
  exact hd.trans ((show (rdat m c).fetched 3 t d = iblk m c 3 t by unfold RDat.fetched RDat.blockOf iblk; rfl).trans (iblk3_eq m c t))

/-- What the body finds in window 4: the upper gate weights. -/
theorem finds4 (c : Dev nD) (t : Fin cfg0.N) (Y) (h : (rdat m c).Finds 4 t Y) : Y = (ins m c).wt := by
  obtain ⟨d, hd⟩ := (rdat m c).finds_in_eq_fetched 4 rfl (fun _ _ _ => rfl) (fun _ _ _ h => h) t Y h
  exact hd.trans ((show (rdat m c).fetched 4 t d = iblk m c 4 t by unfold RDat.fetched RDat.blockOf iblk; rfl).trans (iblk4_eq m c t))

/-- What the body finds in window 5: the lower gate weights. -/
theorem finds5 (c : Dev nD) (t : Fin cfg0.N) (Y) (h : (rdat m c).Finds 5 t Y) : Y = (ins m c).wb := by
  obtain ⟨d, hd⟩ := (rdat m c).finds_in_eq_fetched 5 rfl (fun _ _ _ => rfl) (fun _ _ _ h => h) t Y h
  exact hd.trans ((show (rdat m c).fetched 5 t d = iblk m c 5 t by unfold RDat.fetched RDat.blockOf iblk; rfl).trans (iblk5_eq m c t))

/-- What the body finds in window 6: the second weights. -/
theorem finds6 (c : Dev nD) (t : Fin cfg0.N) (Y) (h : (rdat m c).Finds 6 t Y) : Y = (ins m c).w1 := by
  obtain ⟨d, hd⟩ := (rdat m c).finds_in_eq_fetched 6 rfl (fun _ _ _ => rfl) (fun _ _ _ h => h) t Y h
  exact hd.trans ((show (rdat m c).fetched 6 t d = iblk m c 6 t by unfold RDat.fetched RDat.blockOf iblk; rfl).trans (iblk6_eq m c t))

/-- What the body finds in window 7: the second bias. -/
theorem finds7 (c : Dev nD) (t : Fin cfg0.N) (Y) (h : (rdat m c).Finds 7 t Y) : Y = (ins m c).b1 := by
  obtain ⟨d, hd⟩ := (rdat m c).finds_in_eq_fetched 7 rfl (fun _ _ _ => rfl) (fun _ _ _ h => h) t Y h
  exact hd.trans ((show (rdat m c).fetched 7 t d = iblk m c 7 t by unfold RDat.fetched RDat.blockOf iblk; rfl).trans (iblk7_eq m c t))

/-- After the first point the result's buffer still holds what the previous point left there. -/
theorem finds8 (c : Dev nD) (t : Fin cfg0.N) (Y) (h : (rdat m c).Finds 8 t Y) (ht : t.val ≠ 0) :
    OutOk (ins m c) (rowsDone (t.val - 1)) Y := by
  have hN : t.val < 25 := lt_of_lt_of_eq t.isLt N_0
  rcases ((rdat m c).finds_of_pos ((cfg0.win 8).fetch_out rfl t) ht Y).mp h with hf | ⟨Y', -, h'⟩
  · have := (flush0_8 _).mp hf
    simp only at this; omega
  · exact h'

/-- The body at point `t`, its buffers holding what they may hold there. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8)))
      ⊢ wp frame (wpE (defs₀ (F := F)) Variants.none c none) Set.univ (bodyAt0 t) (fun _ =>
          iprop((rdat m c).Φ t.succ ∗ (rdat m c).owesAt () t.succ
            ∗ ((∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X)))) := by
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  have e6 := finds6 m c t (Y 6) (hY 6)
  have e7 := finds7 m c t (Y 7) (hY 7)
  have e8 := finds8 m c t (Y 8) (hY 8)
  generalize Y 8 = Y8 at *
  rw [e0]
  rw [e1]
  rw [e2]
  rw [e3]
  rw [e4]
  rw [e5]
  rw [e6]
  rw [e7]
  unfold bodyAt0
  rw [show (rdat m c).Φ t.castSucc = iprop(scratchInv m c t.val ∗ ∃ r, prngReg c r) from rfl,
    show (rdat m c).Φ t.succ = iprop(scratchInv m c (t.val + 1) ∗ ∃ r, prngReg c r) from rfl,
    show (rdat m c).owesAt () t.succ = (rdat m c).owesAt () t.castSucc from rfl]
  unfold scratchInv
  iintro ⟨⟨⟨%X0, %X1, %X2, %X3, %hI, S0, S1, S2, S3⟩, Hg⟩, HO, H0, H1, H2, H3, H4, H5, H6, H7, H8⟩
  iapply (run_point c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (ins m c) Y8 X0 X1 X2 X3 e8 hI _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, H6, H7, %Y', %X0', %X1', %X2', %X3', %hq, H8, S0, S1, S2, S3⟩
  isplitl [S0 S1 S2 S3 Hg]
  · isplitl [S0 S1 S2 S3]
    · iexists X0', X1', X2', X3'; isplitr; · ipureintro; exact hq.2
      isplitl [S0]; · iexact S0
      isplitl [S1]; · iexact S1
      isplitl [S2]; · iexact S2
      iexact S3
    iexact Hg
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  iexists Y'; isplitr; · ipureintro; exact hq.1
  iexact H8

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body meets what the pipeline asks of it at every point. -/
theorem body_obligation (c : Dev nD) : (rdat (F := F) m c).BodyObligation (defs₀ (F := F)) Variants.none () Set.univ := fun t Y hY => by
  rw [bigSep_W0, bigSep_W0, defs₀_row]
  exact Idealize.ShloMosaic.triple_restated (sound_body m c t Y hY) rfl .rfl fun _ => .rfl

/-- Before the first point the scratch buffers hold anything, which is all `Inv` says there. -/
theorem phi_in (c : Dev nD) : (Pipeline.ΦA spec0 c : sProp 𝕄) ⊢ (rdat m c).Φ 0 := by
  rw [show (rdat m c).Φ 0 = iprop(scratchInv m c 0 ∗ ∃ r, prngReg c r) from rfl]
  unfold Pipeline.ΦA scratchInv
  rw [scopedRest0_eq]
  simp only [owns_whole]
  iintro ⟨⟨⟨%X0, S0⟩, ⟨%X1, S1⟩, ⟨%X2, S2⟩, ⟨%X3, S3⟩⟩, Hg⟩
  isplitl [S0 S1 S2 S3]
  · iexists X0, X1, X2, X3; isplitr; · ipureintro; exact Or.inl rfl
    isplitl [S0]; · iexact S0
    isplitl [S1]; · iexact S1
    isplitl [S2]; · iexact S2
    iexact S3
  iexact Hg

/-- After the last point the scratch buffers are given back. -/
theorem phi_out (c : Dev nD) : (rdat m c).Φ (Fin.last cfg0.N) ⊢ (Pipeline.ΦA spec0 c : sProp 𝕄) := by
  rw [show (rdat m c).Φ (Fin.last cfg0.N) = iprop(scratchInv m c cfg0.N ∗ ∃ r, prngReg c r) from rfl]
  unfold Pipeline.ΦA scratchInv
  rw [scopedRest0_eq]
  simp only [owns_whole]
  iintro ⟨⟨%X0, %X1, %X2, %X3, -, S0, S1, S2, S3⟩, Hg⟩
  isplitl [S0 S1 S2 S3]
  · isplitl [S0]; · iexists X0; iexact S0
    isplitl [S1]; · iexists X1; iexact S1
    isplitl [S2]; · iexists X2; iexact S2
    iexists X3; iexact S3
  iexact Hg

set_option backward.isDefEq.respectTransparency.types false in
/-- Every fair execution ends, the windows' arrays at what the launch's relations allow, the other arrays untouched and
every semaphore at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m)
    (hshare := fun c w => by unfold RDat.share; split <;> rfl)
    (howed := fun _ _ => rfl) (V := V m) (hmain := hmain m Variants.none) (hA := fun _ _ => rfl)
    (hin := phi_in m) (hout := phi_out m)

/-- The result is written back once, whole, at the last point. -/
theorem wholeAt8 : win0_8.WholeAt (⟨24, by decide⟩ : Fin grid0.N) := by decide +kernel

/-- The result array at the end of a run. -/
theorem result_of {r : PUnit × MemSt nD τ sig (Elt F)}
    (h : Pipeline.RDat.FramePost (cfgs 0) (rdat m) (V m) r) (c : Dev nD) (n : Fin 10000) (f : Fin 16) :
    (r.2.mem ((c.tc : Thread nD τ).loc main_v4) : Vec F S10000x16 .f32) (ix2 n f) = outX (ins m c) n.val f := by
  obtain ⟨X, ⟨Y, -, hX⟩, hj⟩ := RDat.ArrAt.emb_eq_of_wholeAt ((h c).1 8) wholeAt8
  have e := hj (ix2 n f)
  have e2 : OutOk (ins m c) (rowsDone 24) X := hX
  refine e.trans ?_
  exact e2 (ix2 n f) n.isLt

/-- The argument arrays at the end of a run. -/
theorem args_of {r : PUnit × MemSt nD τ sig (Elt F)}
    (h : Pipeline.RDat.FramePost (cfgs 0) (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(RDat.FramePost.arr_in h c 0 rfl).trans (V_main_arg0 m c),
    (RDat.FramePost.arr_in h c 2 rfl).trans (V_main_arg1 m c),
    (RDat.FramePost.arr_in h c 1 rfl).trans (V_main_arg2 m c),
    ((h c).2 main_arg3 (Pipeline.mem_restRefs_of main_arg3 (by decide) (by decide))).trans (V_main_arg3 m c),
    (RDat.FramePost.arr_in h c 6 rfl).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The argument arrays at the end of a run, and the semaphores. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_of m h.1, h.2⟩) (run_main m ρ)

end Cert.KernelIdeal.Hand

end
-- ==== Proof.Math.lean ====
/-
  The mathematics both programs compute, over the real numbers (the gate's weights alone may be infinite, since a gate
  is a number between zero and one all the same): one graph-convolution layer, the gated sum over the
  sixteen nodes that follow a node on the ring of 10000 nodes, the output layer and the log-softmax. Beside it the
  identities the proof needs: the logistic function as a hyperbolic tangent (the kernel's spelling), the gate's
  product split in its two halves, and sums and maxima of real numbers read inside the extended reals.
-/
module

public import Idealize.ShloMosaic.Lib.IdealHost
public import Idealize.ShloMosaic.Lib.Pointwise
public import Mathlib.Analysis.SpecialFunctions.Trigonometric.Basic
public import Mathlib.Analysis.SpecialFunctions.Log.Basic

@[expose] public section

noncomputable section

namespace Cert.Math

open Idealize.ShloMosaic

/-- The float arguments, as matrices and vectors: of real numbers, but for the gate's weights. -/
structure Net where
  /-- The node features. -/
  x : Fin 10000 → Fin 128 → ℝ
  /-- The dense adjacency matrix. -/
  adj : Fin 10000 → Fin 10000 → ℝ
  /-- The first layer's weights. -/
  w0 : Fin 128 → Fin 128 → ℝ
  /-- The first layer's bias. -/
  b0 : Fin 128 → ℝ
  /-- The output layer's weights. -/
  w1 : Fin 128 → Fin 16 → ℝ
  /-- The output layer's bias. -/
  b1 : Fin 16 → ℝ
  /-- The gate's weights: the upper half meets the node, the lower half its neighbour. -/
  wm : Fin 256 → Fin 128 → EReal

/-- The node at place `r` of the ring, for places up to sixteen past the last node. -/
def ring (r : ℕ) (h : r < 10016) : Fin 10000 :=
  ⟨if r < 10000 then r else r - 10000, by split <;> omega⟩

/-- The `k`-th neighbour of node `n`: the node `k + 1` places on, around the ring. -/
def nb (n : Fin 10000) (k : Fin 16) : Fin 10000 := ring (n.val + k.val + 1) (by omega)

/-- The features after the first layer's weights. -/
def sup (N : Net) (r : Fin 10000) (f : Fin 128) : ℝ := ∑ k, N.x r k * N.w0 k f

/-- The hidden features: the graph convolution and the rectifier. -/
def hid (N : Net) (n : Fin 10000) (f : Fin 128) : ℝ := max (∑ k, N.adj n k * sup N k f + N.b0 f) 0

/-- The upper half of the gate's weights applied to a node. -/
def up (N : Net) (n : Fin 10000) (f : Fin 128) : EReal :=
  ∑ l : Fin 128, (hid N n l : EReal) * N.wm ⟨l.val, by omega⟩ f

/-- The lower half of the gate's weights applied to a node. -/
def low (N : Net) (n : Fin 10000) (f : Fin 128) : EReal :=
  ∑ l : Fin 128, (hid N n l : EReal) * N.wm ⟨128 + l.val, by omega⟩ f

/-- The logistic function, with its limits at the infinities. -/
def gate (z : EReal) : ℝ := if z = ⊥ then 0 else if z = ⊤ then 1 else 1 / (1 + Real.exp (-z.toReal))

/-- A node's features and the gated sum of its neighbours' features. -/
def mix (N : Net) (n : Fin 10000) (f : Fin 128) : ℝ :=
  ∑ k, gate (up N n f + low N (nb n k) f) * hid N (nb n k) f + hid N n f

/-- The output layer before the softmax. -/
def logit (N : Net) (n : Fin 10000) (c : Fin 16) : ℝ := ∑ f, mix N n f * N.w1 f c + N.b1 c

/-- The greatest of sixteen numbers. -/
def top (o : Fin 16 → ℝ) : ℝ := Finset.univ.sup' ⟨0, Finset.mem_univ _⟩ o

/-- The logarithm of the softmax of sixteen numbers. -/
def lsm (o : Fin 16 → ℝ) (c : Fin 16) : ℝ := o c - top o - Real.log (∑ k, Real.exp (o k - top o))

/-- The result both programs compute. -/
def out (N : Net) (n : Fin 10000) (c : Fin 16) : ℝ := lsm (logit N n) c

/-! ## What the arguments hold -/

/-- The numbers in the float arguments. -/
def netOf (x : FVec Ideal ⟨2, ![10000, 128]⟩ .f32) (adj : FVec Ideal ⟨2, ![10000, 10000]⟩ .f32)
    (w0 : FVec Ideal ⟨2, ![128, 128]⟩ .f32) (b0 : FVec Ideal ⟨1, ![128]⟩ .f32) (w1 : FVec Ideal ⟨2, ![128, 16]⟩ .f32)
    (b1 : FVec Ideal ⟨1, ![16]⟩ .f32) (wm : FVec Ideal ⟨2, ![256, 128]⟩ .f32) : Net where
  x r k := EReal.toReal (x (ix2 r k))
  adj r k := EReal.toReal (adj (ix2 r k))
  w0 r k := EReal.toReal (w0 (ix2 r k))
  b0 k := EReal.toReal (b0 (ix1 k))
  w1 r k := EReal.toReal (w1 (ix2 r k))
  b1 k := EReal.toReal (b1 (ix1 k))
  wm r k := wm (ix2 r k)

/-- The float arguments hold the numbers `N`: none of their entries is infinite, but perhaps some of the gate's weights. -/
structure Reals (x : FVec Ideal ⟨2, ![10000, 128]⟩ .f32) (adj : FVec Ideal ⟨2, ![10000, 10000]⟩ .f32)
    (w0 : FVec Ideal ⟨2, ![128, 128]⟩ .f32) (b0 : FVec Ideal ⟨1, ![128]⟩ .f32) (w1 : FVec Ideal ⟨2, ![128, 16]⟩ .f32)
    (b1 : FVec Ideal ⟨1, ![16]⟩ .f32) (wm : FVec Ideal ⟨2, ![256, 128]⟩ .f32) (N : Net) : Prop where
  x : ∀ r k, x (ix2 r k) = (N.x r k : EReal)
  adj : ∀ r k, adj (ix2 r k) = (N.adj r k : EReal)
  w0 : ∀ r k, w0 (ix2 r k) = (N.w0 r k : EReal)
  b0 : ∀ k, b0 (ix1 k) = (N.b0 k : EReal)
  w1 : ∀ r k, w1 (ix2 r k) = (N.w1 r k : EReal)
  b1 : ∀ k, b1 (ix1 k) = (N.b1 k : EReal)
  wm : ∀ r k, wm (ix2 r k) = N.wm r k

/-- The edge list is the ring's: edge `16 n + k` runs from node `n` to its `k`-th neighbour. -/
structure RingEdges (e : IVec ⟨2, ![2, 160000]⟩ 32) : Prop where
  src : ∀ (n : Fin 10000) (k : Fin 16), e (ix2 0 ⟨n.val * 16 + k.val, by omega⟩) = BitVec.ofNat 32 n.val
  dst : ∀ (n : Fin 10000) (k : Fin 16), e (ix2 1 ⟨n.val * 16 + k.val, by omega⟩) = BitVec.ofNat 32 (nb n k).val

/-! ## Real identities -/

/-- The logistic function is half of one more than the hyperbolic tangent of half its argument. -/
theorem logistic_eq_tanh (z : ℝ) : 1 / (1 + Real.exp (-z)) = 1 / 2 * Real.tanh (1 / 2 * z) + 1 / 2 := by
  have h1 : Real.exp (-z) = Real.exp (-(1 / 2 * z)) * Real.exp (-(1 / 2 * z)) := by rw [← Real.exp_add]; congr 1; ring
  have hp := Real.exp_pos (1 / 2 * z)
  have hq := Real.exp_pos (-(1 / 2 * z))
  have hm : Real.exp (1 / 2 * z) * Real.exp (-(1 / 2 * z)) = 1 := by rw [← Real.exp_add]; simp
  rw [Real.tanh_eq_sinh_div_cosh, Real.sinh_eq, Real.cosh_eq, h1]
  generalize Real.exp (1 / 2 * z) = p at *
  generalize Real.exp (-(1 / 2 * z)) = q at *
  have h2 : p + q ≠ 0 := (add_pos hp hq).ne'
  have h3 : 1 + q * q ≠ 0 := (add_pos one_pos (mul_pos hq hq)).ne'
  field_simp
  linear_combination (-2 * q) * hm

/-- The gate as the reference spells it. -/
theorem gate_div (z : EReal) : Ideal.div 1 (1 + Ideal.exp (-z)) = (gate z : EReal) := by
  unfold gate
  induction z with
  | bot =>
    have h : (1 : EReal) + ⊤ = ⊤ := EReal.add_top_of_ne_bot (EReal.coe_ne_bot 1)
    simp [Ideal.div, h]
  | top => simp [Ideal.div]
  | coe r =>
    rw [if_neg (EReal.coe_ne_bot r), if_neg (EReal.coe_ne_top r), EReal.toReal_coe, ← EReal.coe_neg, Ideal.exp_coe,
      ← EReal.coe_one, ← EReal.coe_add, Ideal.div_coe (add_pos one_pos (Real.exp_pos _)).ne', ← EReal.coe_mul, one_mul]

/-- The gate as the kernel spells it, from halves of its two products. -/
theorem gate_tanh (a b : EReal) :
    Ideal.tanh (((1 / 2 : ℝ) : EReal) * a + ((1 / 2 : ℝ) : EReal) * b) = ((2 * gate (a + b) - 1 : ℝ) : EReal) := by
  have hp : (0 : ℝ) < 1 / 2 := by norm_num
  rw [← EReal.left_distrib_of_nonneg_of_ne_top (EReal.coe_nonneg.2 hp.le) (EReal.coe_ne_top _)]
  generalize a + b = z
  unfold gate
  induction z with
  | bot => rw [EReal.coe_mul_bot_of_pos hp, Ideal.tanh_bot, if_pos rfl]; norm_num
  | top => rw [EReal.coe_mul_top_of_pos hp, Ideal.tanh_top, if_neg (by simp), if_pos rfl]; norm_num
  | coe r =>
    rw [if_neg (EReal.coe_ne_bot r), if_neg (EReal.coe_ne_top r), EReal.toReal_coe, ← EReal.coe_mul, Ideal.tanh_coe,
      logistic_eq_tanh]
    congr 1
    ring

/-- The kernel's spelling of the gated sum: half the sum of the hyperbolic tangents times the neighbours and half the sum
of the neighbours. -/
theorem mix_eq_tanh (N : Net) (n : Fin 10000) (f : Fin 128) :
    hid N n f + 1 / 2 * ∑ k, (2 * gate (up N n f + low N (nb n k) f) - 1) * hid N (nb n k) f
      + 1 / 2 * ∑ k, hid N (nb n k) f = mix N n f := by
  unfold mix
  rw [add_assoc, add_comm (hid N n f), Finset.mul_sum, Finset.mul_sum, ← Finset.sum_add_distrib]
  refine congrArg (· + hid N n f) (Finset.sum_congr rfl fun k _ => ?_)
  ring

/-- The softmax's denominator is positive. -/
theorem den_pos (o : Fin 16 → ℝ) (t : ℝ) : 0 < ∑ k, Real.exp (o k - t) :=
  Finset.sum_pos (fun k _ => Real.exp_pos _) ⟨0, Finset.mem_univ _⟩

/-! ## Real numbers among the extended reals -/

/-- A sum of real numbers, read in the extended reals. -/
theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- A sum of products of real numbers. -/
theorem coe_sum_mul {ι : Type} [Fintype ι] {a b : ι → EReal} (g h : ι → ℝ) (ha : ∀ i, a i = (g i : EReal))
    (hb : ∀ i, b i = (h i : EReal)) : ∑ i, a i * b i = ((∑ i, g i * h i : ℝ) : EReal) := by
  rw [← coe_sum]
  exact Finset.sum_congr rfl fun i _ => by rw [ha, hb, EReal.coe_mul]

/-- The greater of two real numbers. -/
theorem coe_max (a b : ℝ) : max (a : EReal) (b : EReal) = ((max a b : ℝ) : EReal) :=
  (EReal.coe_strictMono.monotone.map_max (a := a) (b := b)).symm

/-- The maximum of sixteen real numbers, started from minus infinity. -/
theorem fold_max {v : Fin 16 → EReal} (o : Fin 16 → ℝ) (hv : ∀ k, v k = (o k : EReal)) :
    Finset.univ.fold max ⊥ v = ((top o : ℝ) : EReal) := by
  have h : Finset.univ.fold max ⊥ v = Finset.univ.sup v := rfl
  rw [h]
  apply le_antisymm
  · refine Finset.sup_le fun k hk => ?_
    rw [hv]
    exact EReal.coe_le_coe_iff.2 (Finset.le_sup' o hk)
  · obtain ⟨k, hk, he⟩ := Finset.exists_mem_eq_sup' (s := Finset.univ) ⟨(0 : Fin 16), Finset.mem_univ _⟩ o
    unfold top
    rw [he, ← hv]
    exact Finset.le_sup (f := v) hk

/-- The pattern of one half. -/
theorem ofBits_half : Ideal.ofBits .f32 0x3F000000#32 = ((1 / 2 : ℝ) : EReal) := by
  simp [Ideal.ofBits, Ideal.ieee, -EReal.coe_mul]; norm_num

/-- The pattern of minus infinity. -/
theorem ofBits_neg_inf : Ideal.ofBits .f32 0xFF800000#32 = ⊥ := by
  simp [Ideal.ofBits, Ideal.ieee]

/-- The pattern of infinity. -/
theorem ofBits_inf : Ideal.ofBits .f32 0x7F800000#32 = ⊤ := by
  simp [Ideal.ofBits, Ideal.ieee]

/-- A small number as a signed word. -/
theorem toInt_ofNat_small (a : ℕ) (h : a < 2 ^ 31) : (BitVec.ofNat 32 a).toInt = (a : ℤ) := by
  have h1 : (BitVec.ofNat 32 a).toNat = a := by rw [BitVec.toNat_ofNat]; exact Nat.mod_eq_of_lt (by omega)
  rw [BitVec.toInt_eq_toNat_of_lt (by rw [h1]; omega), h1]

end Cert.Math
-- ==== Proof.KernelValue.lean ====
module

public import proofs.«01_k».proof.Proof.Blocks
public import proofs.«01_k».proof.Proof.Math

@[expose] public section

/-!
# The kernel's blocks as real numbers

When the arrays the kernel was given hold real numbers, so does every block it computes: the hidden layer, its two
products, the mixed features, the logits and the result. Each lemma reads one block at one position.
-/

set_option maxRecDepth 16384

noncomputable section

namespace Cert.KernelIdeal.Hand

open Cert.KernelIdeal Cert.KernelIdeal.Gen Cert.Math
open Idealize.ShloMosaic

/-- What the kernel was given holds the real numbers `N`. -/
structure Holds (P : Ins Ideal) (N : Net) : Prop where
  x : ∀ r k, P.x (ix2 r k) = (N.x r k : EReal)
  w0 : ∀ k f, P.w0 (ix2 k f) = (N.w0 k f : EReal)
  adj : ∀ (t : ℕ) (ht : t < 25) (p : Fin 400) (k : Fin 10000),
    P.adj t (ix2 p k) = (N.adj ⟨400 * t + p.val, by omega⟩ k : EReal)
  b0 : ∀ f, P.b0 (ix2 0 f) = (N.b0 f : EReal)
  wt : ∀ l f, P.wt (ix2 l f) = N.wm ⟨l.val, by omega⟩ f
  wb : ∀ l f, P.wb (ix2 l f) = N.wm ⟨128 + l.val, by omega⟩ f
  w1 : ∀ f c, P.w1 (ix2 f c) = (N.w1 f c : EReal)
  b1 : ∀ c, P.b1 (ix2 0 c) = (N.b1 c : EReal)

variable {P : Ins Ideal} {N : Net}

/-- The features after the first weights. -/
theorem sup_val (H : Holds P N) (r : Fin 10000) (f : Fin 128) : sup P (ix2 r f) = (Math.sup N r f : EReal) := by
  unfold sup
  pointwise [k0_pay27]
  exact coe_sum_mul _ _ (fun k => H.x r k) (fun k => H.w0 k f)

/-- Block `t` of the hidden layer. -/
theorem hB_val (H : Holds P N) (t : ℕ) (ht : t < 25) (p : Fin 400) (f : Fin 128) :
    hB P t (ix2 p f) = (hid N ⟨400 * t + p.val, by omega⟩ f : EReal) := by
  unfold hB
  pointwise [k0_pay28]
  rw [coe_sum_mul _ _ (fun k => H.adj t ht p k) (fun k => sup_val H k f), H.b0, ← EReal.coe_add, ← EReal.coe_zero,
    coe_max]
  rfl

/-- Block `t` of half the hidden layer times the upper weights of the gate. -/
theorem aB_val (H : Holds P N) (t : ℕ) (ht : t < 25) (p : Fin 400) (f : Fin 128) :
    aB P t (ix2 p f) = ((1 / 2 : ℝ) : EReal) * up N ⟨400 * t + p.val, by omega⟩ f := by
  unfold aB
  pointwise [k0_pay32]
  change _ * ∑ l, hB P t (ix2 p l) * P.wt (ix2 l f) = _
  rw [ofBits_half, Finset.sum_congr rfl fun k _ => congrArg₂ (· * ·) (hB_val H t ht p k) (H.wt k f)]
  rfl

/-- Block `t` of half the hidden layer times the lower weights of the gate. -/
theorem bB_val (H : Holds P N) (t : ℕ) (ht : t < 25) (p : Fin 400) (f : Fin 128) :
    bB P t (ix2 p f) = ((1 / 2 : ℝ) : EReal) * low N ⟨400 * t + p.val, by omega⟩ f := by
  unfold bB
  pointwise [k0_pay29]
  change _ * ∑ l, hB P t (ix2 p l) * P.wb (ix2 l f) = _
  rw [ofBits_half, Finset.sum_congr rfl fun k _ => congrArg₂ (· * ·) (hB_val H t ht p k) (H.wb k f)]
  rfl

/-- The rows of a blocked array whose blocks hold known rows: the ring's rows, the first sixteen again at the end. -/
theorem rowsOf_val (B : ℕ → Vec Ideal S400x128 .f32) (g : Fin 10000 → Fin 128 → EReal)
    (hB : ∀ (t : ℕ) (ht : t < 25) (p : Fin 400) (f : Fin 128), B t (ix2 p f) = g ⟨400 * t + p.val, by omega⟩ f)
    (r : ℕ) (hr : r < 10016) (f : Fin 128) : rowsOf B r f = g (ring r hr) f := by
  unfold rowsOf
  by_cases h : r < 10000
  · rw [if_pos h, hB _ (by omega)]
    refine congrArg (fun n => g n f) (Fin.ext ?_)
    simp only [ring, if_pos h]
    omega
  · rw [if_neg h, hB _ (by omega)]
    refine congrArg (fun n => g n f) (Fin.ext ?_)
    simp only [ring, if_neg h]
    omega

/-- A row of the hidden layer as kept. -/
theorem HX_val (H : Holds P N) (r : ℕ) (hr : r < 10016) (f : Fin 128) : HX P r f = (hid N (ring r hr) f : EReal) :=
  rowsOf_val _ (fun n f => (hid N n f : EReal)) (hB_val H) r hr f

/-- A row of the lower product as kept. -/
theorem BX_val (H : Holds P N) (r : ℕ) (hr : r < 10016) (f : Fin 128) :
    BX P r f = ((1 / 2 : ℝ) : EReal) * low N (ring r hr) f :=
  rowsOf_val _ (fun n f => ((1 / 2 : ℝ) : EReal) * low N n f) (bB_val H) r hr f

/-- The running sum of gated neighbours is a sum. -/
theorem accT_val (a : FVec Ideal S400x128 .f32) (b h : ℕ → FVec Ideal S400x128 .f32) (p : Fin 400) (f : Fin 128) (n : ℕ) :
    accT a b h n (ix2 p f)
      = ∑ k ∈ Finset.range n, Ideal.tanh (a (ix2 p f) + b (k + 1) (ix2 p f)) * h (k + 1) (ix2 p f) := by
  induction n with
  | zero => unfold accT; pointwise []; rfl
  | succ n ih =>
    unfold accT
    pointwise []
    rw [ih, Finset.sum_range_succ]

/-- The running sum of neighbours is a sum. -/
theorem accH_val (h : ℕ → FVec Ideal S400x128 .f32) (p : Fin 400) (f : Fin 128) (n : ℕ) :
    accH h n (ix2 p f) = ∑ k ∈ Finset.range n, h (k + 1) (ix2 p f) := by
  induction n with
  | zero => unfold accH; pointwise []; rfl
  | succ n ih =>
    unfold accH
    pointwise []
    rw [ih, Finset.sum_range_succ]

/-- The mixed features of block `j`. -/
theorem mixed_val (H : Holds P N) (j : ℕ) (hj : j < 25) (p : Fin 400) (f : Fin 128) :
    mixed (aB P j) (blk (HX P) (j * 400)) (fun k => blk (BX P) (j * 400 + k)) (fun k => blk (HX P) (j * 400 + k)) (ix2 p f)
      = (mix N ⟨400 * j + p.val, by omega⟩ f : EReal) := by
  have hh : ∀ k : Fin 16, HX P (j * 400 + (k.val + 1) + p.val) f
      = (hid N (nb ⟨400 * j + p.val, by omega⟩ k) f : EReal) := fun k => by
    rw [HX_val H _ (by omega)]
    exact congrArg (fun n => ((hid N n f : ℝ) : EReal)) (Fin.ext (by simp only [nb, ring]; split <;> split <;> omega))
  have hb : ∀ k : Fin 16, BX P (j * 400 + (k.val + 1) + p.val) f
      = ((1 / 2 : ℝ) : EReal) * low N (nb ⟨400 * j + p.val, by omega⟩ k) f := fun k => by
    rw [BX_val H _ (by omega)]
    exact congrArg (fun n => ((1 / 2 : ℝ) : EReal) * low N n f)
      (Fin.ext (by simp only [nb, ring]; split <;> split <;> omega))
  have h0 : HX P (j * 400 + p.val) f = (hid N ⟨400 * j + p.val, by omega⟩ f : EReal) := by
    rw [HX_val H _ (by omega)]
    exact congrArg (fun n => ((hid N n f : ℝ) : EReal)) (Fin.ext (by simp only [ring]; split <;> omega))
  have hT : accT (aB P j) (fun k => blk (BX P) (j * 400 + k)) (fun k => blk (HX P) (j * 400 + k)) 16 (ix2 p f)
      = ((∑ k, (2 * gate (up N ⟨400 * j + p.val, by omega⟩ f
          + low N (nb ⟨400 * j + p.val, by omega⟩ k) f) - 1) * hid N (nb ⟨400 * j + p.val, by omega⟩ k) f : ℝ) : EReal) := by
    rw [accT_val, Finset.sum_range, ← coe_sum]
    refine Finset.sum_congr rfl fun k _ => ?_
    show Ideal.tanh (aB P j (ix2 p f) + BX P (j * 400 + (k.val + 1) + p.val) f) * HX P (j * 400 + (k.val + 1) + p.val) f = _
    rw [hb, hh, aB_val H j hj, gate_tanh, EReal.coe_mul]
  have hH : accH (fun k => blk (HX P) (j * 400 + k)) 16 (ix2 p f)
      = ((∑ k, hid N (nb ⟨400 * j + p.val, by omega⟩ k) f : ℝ) : EReal) := by
    rw [accH_val, Finset.sum_range, ← coe_sum]
    exact Finset.sum_congr rfl fun k _ => hh k
  unfold mixed
  pointwise []
  rw [hT, hH, ofBits_half, ← mix_eq_tanh, EReal.coe_add, EReal.coe_add, EReal.coe_mul, EReal.coe_mul]
  exact congrArg (fun z => z + _ + _) h0

/-- The logarithm of the softmax of a row of real numbers. -/
theorem logSoft_val (o : FVec Ideal S400x16 .f32) (p : Fin 400) (g : Fin 16 → ℝ) (ho : ∀ c, o (ix2 p c) = (g c : EReal))
    (c : Fin 16) : logSoft o (ix2 p c) = (lsm g c : EReal) := by
  unfold logSoft rowSum rowMax
  pointwise []
  rw [ofBits_neg_inf, fold_max g ho]
  have hs : ∑ k, Ideal.exp (o (ix2 p k) - ((top g : ℝ) : EReal)) = ((∑ k, Real.exp (g k - top g) : ℝ) : EReal) := by
    rw [← coe_sum]
    exact Finset.sum_congr rfl fun k _ => by rw [ho, ← EReal.coe_sub, Ideal.exp_coe]
  rw [hs, Ideal.log_coe, if_neg (not_le.2 (den_pos g (top g))), ho, ← EReal.coe_add, ← EReal.coe_sub]
  unfold lsm
  rw [sub_add_eq_sub_sub]

/-- The result, by rows. -/
theorem outX_val (H : Holds P N) (n : Fin 10000) (c : Fin 16) : outX P n.val c = (out N n c : EReal) := by
  have hn : (⟨400 * (n.val / 400) + n.val % 400, by omega⟩ : Fin 10000) = n := Fin.ext (by simp only []; omega)
  unfold outX outB agg
  rw [logSoft_val _ _ (logit N n)]
  · rfl
  intro c
  unfold logits
  pointwise []
  rw [coe_sum_mul _ _ (fun f => mixed_val H (n.val / 400) (by omega) ⟨n.val % 400, by omega⟩ f) (fun f => H.w1 f c), H.b1,
    ← EReal.coe_add, hn]
  rfl

end Cert.KernelIdeal.Hand
-- ==== Proof.KernelArgs.lean ====
module

public import proofs.«01_k».proof.Proof.KernelValue
public import proofs.«01_k».proof.Proof.Run
public import Idealize.ShloMosaic.Lib.Claim
public import Idealize.ShloMosaic.Lib.Pointwise

@[expose] public section

/-!
# The kernel's arguments as real numbers

The host operations before the kernel's grid add an axis to the two biases and cut the mixing weights into their upper
and lower halves. So real arguments give the grid real arrays, which is what `outX_val` asks for.
-/

set_option maxRecDepth 16384

noncomputable section

namespace Cert.KernelIdeal.Hand

open Cert.KernelIdeal Cert.KernelIdeal.Gen Cert.Math
open Idealize.ShloMosaic Idealize.ShloMosaic.TcCoe

/-- Every ideal element type has an element. -/
instance nonempty_elt : ∀ e, Nonempty (Elt Ideal e) := fun e => by cases e <;> exact inferInstance

variable (m : (ℓ : Loc nD τ sig) → Buf (Elt Ideal) ℓ)

/-- The first bias with its new axis. -/
theorem V_b0 (c : Dev nD) (f : Fin 128) :
    (V m c main_v0 : Vec Ideal S1x128 .f32) (ix2 0 f) = (m ((c : Thread nD τ).loc main_arg3) : Vec Ideal S128 .f32) (ix1 f) := by
  entry_read
  pointwise []

/-- The second bias with its new axis. -/
theorem V_b1 (c : Dev nD) (f : Fin 16) :
    (V m c main_v1 : Vec Ideal S1x16 .f32) (ix2 0 f) = (m ((c : Thread nD τ).loc main_arg5) : Vec Ideal S16 .f32) (ix1 f) := by
  entry_read
  pointwise []

/-- The upper half of the mixing weights. -/
theorem V_wt (c : Dev nD) (l f : Fin 128) :
    (V m c main_v2 : Vec Ideal S128x128 .f32) (ix2 l f)
      = (m ((c : Thread nD τ).loc main_arg6) : Vec Ideal S256x128 .f32) (ix2 ⟨l.val, by omega⟩ f) := by
  entry_read
  pointwise []

/-- The lower half of the mixing weights. -/
theorem V_wb (c : Dev nD) (l f : Fin 128) :
    (V m c main_v3 : Vec Ideal S128x128 .f32) (ix2 l f)
      = (m ((c : Thread nD τ).loc main_arg6) : Vec Ideal S256x128 .f32) (ix2 ⟨128 + l.val, by omega⟩ f) := by
  entry_read
  pointwise []

/-- Real arguments give the grid real arrays. -/
theorem holds_ins (c : Dev nD) {N : Net}
    (R : Reals (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) N) : Holds (ins m c) N where
  x r k := (congrFun (V_main_arg0 m c) _).trans (R.x r k)
  w0 k f := (congrFun (V_main_arg2 m c) _).trans (R.w0 k f)
  adj t ht p k := by
    refine (congrFun (V_main_arg1 m c) _).trans ((R.adj _ k).trans ?_)
    refine congrArg (fun r => ((N.adj r k : ℝ) : EReal)) (Fin.ext ?_)
    show 400 * (t % 25) + p.val = 400 * t + p.val
    rw [Nat.mod_eq_of_lt ht]
  b0 f := (V_b0 m c f).trans (R.b0 f)
  wt l f := (V_wt m c l f).trans (R.wm _ f)
  wb l f := (V_wb m c l f).trans (R.wm _ f)
  w1 f k := (congrFun (V_main_arg4 m c) _).trans (R.w1 f k)
  b1 k := (V_b1 m c k).trans (R.b1 k)

end Cert.KernelIdeal.Hand
-- ==== Proof.PreFacts.lean ====
module

public import proofs.«01_k».proof.Proof.Gen.Pre_regular_and_finite
public import proofs.«01_k».proof.Proof.Math
public import Idealize.ShloMosaic.Lib.ReduceAll
public import Idealize.ShloMosaic.Lib.Pointwise

@[expose] public section

/-!
# What the precondition says

The precondition is one bit: the conjunction of "every entry is below infinity in absolute value" for each float
argument but the gate's weights, and of "every edge is the ring's" for the edge list. Here that bit is read back.
-/

set_option maxRecDepth 16384

noncomputable section

namespace Cert.Pre_regular_and_finite.Hand

open Cert.Pre_regular_and_finite Cert.Pre_regular_and_finite.Gen Cert.Math
open Idealize.ShloMosaic

/-- A number below infinity in absolute value is real. -/
theorem real_of_abs_lt (a : EReal) (h : Ideal.cmp .olt (max a (-a)) ⊤ = 1#1) : a = ((EReal.toReal a : ℝ) : EReal) := by
  induction a with
  | bot => simp [Ideal.cmp] at h
  | top => simp [Ideal.cmp] at h
  | coe r => rw [EReal.toReal_coe]

/-- An array all of whose entries test below infinity in absolute value holds real numbers. -/
theorem real_of_all {s : Shape} {axes : List (Fin s.rank)} [Subsingleton S_.Idx] (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : x i = ((EReal.toReal (x i) : ℝ) : EReal) := by
  have h := Host.reduce_andi_all _ _ hr hu j e i
  refine real_of_abs_lt _ ?_
  rw [← ofBits_inf]
  exact h

/-- The conjunction of two bits. -/
theorem andi_split {a b : IVec S_ 1} {j : S_.Idx} (h : andi a b j = 1#1) : a j = 1#1 ∧ b j = 1#1 :=
  IntOp.andi_eq_one.1 h

/-- The neighbour's number, as the precondition computes it in words. -/
theorem nb_word (n : Fin 10000) (k : Fin 16) :
    Scalar.select
        (IntOp.cmpi .slt (IntOp.addi (IntOp.addi (BitVec.ofNat 32 n.val) (BitVec.ofNat 32 k.val)) 1#32) 10000#32)
        (IntOp.addi (IntOp.addi (BitVec.ofNat 32 n.val) (BitVec.ofNat 32 k.val)) 1#32)
        (IntOp.subi (IntOp.addi (IntOp.addi (BitVec.ofNat 32 n.val) (BitVec.ofNat 32 k.val)) 1#32) 10000#32)
      = BitVec.ofNat 32 (nb n k).val := by
  have hs : IntOp.addi (IntOp.addi (BitVec.ofNat 32 n.val) (BitVec.ofNat 32 k.val)) 1#32
      = BitVec.ofNat 32 (n.val + k.val + 1) := by
    show BitVec.ofNat 32 n.val + BitVec.ofNat 32 k.val + BitVec.ofNat 32 1 = _
    rw [← BitVec.ofNat_add, ← BitVec.ofNat_add]
  rw [hs]
  have hc : IntOp.cmpi .slt (BitVec.ofNat 32 (n.val + k.val + 1)) 10000#32 = 1#1 ↔ n.val + k.val + 1 < 10000 := by
    rw [IntOp.cmpi_slt, toInt_ofNat_small _ (by omega)]
    show _ < ((10000 : ℕ) : ℤ) ↔ _
    exact Int.ofNat_lt
  unfold Scalar.select
  by_cases h : n.val + k.val + 1 < 10000
  · refine (if_pos (hc.2 h)).trans ?_
    simp only [nb, ring, if_pos h]
  · refine (if_neg (fun e => h (hc.1 e))).trans ?_
    simp only [nb, ring, if_neg h]
    refine BitVec.eq_of_toNat_eq ?_
    show (BitVec.ofNat 32 (n.val + k.val + 1) - 10000#32).toNat = _
    rw [BitVec.toNat_sub, BitVec.toNat_ofNat, BitVec.toNat_ofNat, BitVec.toNat_ofNat]
    omega

/-- Where the precondition's bit is one, the float arguments but the gate's weights hold real numbers, and the edges are the ring's. -/
theorem read (x : FVec Ideal S10000x128 .f32) (adj : FVec Ideal S10000x10000 .f32) (w0 : FVec Ideal S128x128 .f32)
    (b0 : FVec Ideal S128 .f32) (w1 : FVec Ideal S128x16 .f32) (b1 : FVec Ideal S16 .f32) (wm : FVec Ideal S256x128 .f32)
    (e : IVec S2x160000 32) (h : fn (F := Ideal) x adj w0 b0 w1 b1 wm e = fun _ => 1#1) :
    Reals x adj w0 b0 w1 b1 wm (netOf x adj w0 b0 w1 b1 wm) ∧ RingEdges e := by
  have h0 := congrFun h ix0
  haveI : Subsingleton S_.Idx := ⟨fun a b => funext fun k => k.elim0⟩
  simp only [fn, fn_part1, fn_part2] at h0
  obtain ⟨h0, e5⟩ := andi_split h0
  obtain ⟨h0, e4⟩ := andi_split h0
  obtain ⟨h0, e3⟩ := andi_split h0
  obtain ⟨h0, e2⟩ := andi_split h0
  obtain ⟨h0, e1⟩ := andi_split h0
  obtain ⟨h0, ex⟩ := andi_split h0
  obtain ⟨hs, hd⟩ := andi_split h0
  refine ⟨⟨fun r k => real_of_all x _ _ _ _ ex _, fun r k => real_of_all adj _ _ _ _ e1 _,
    fun r k => real_of_all w0 _ _ _ _ e2 _, fun k => real_of_all b0 _ _ _ _ e3 _, fun r k => real_of_all w1 _ _ _ _ e4 _,
    fun k => real_of_all b1 _ _ _ _ e5 _, fun _ _ => rfl⟩, ⟨fun n k => ?_, fun n k => ?_⟩⟩
  · have hi := IntOp.cmpi_eq.1 (Host.reduce_andi_all _ _ _ _ _ hs (ix2 n k))
    revert hi
    pointwise []
    exact id
  · have hi := IntOp.cmpi_eq.1 (Host.reduce_andi_all _ _ _ _ _ hd (ix2 n k))
    revert hi
    pointwise [fn_where]
    exact fun hi => hi.trans (nb_word n k)

end Cert.Pre_regular_and_finite.Hand
-- ==== Proof.RefBlocks.lean ====
module

public import proofs.«01_k».proof.Proof.Gen.ReferenceIdeal.Run
public import proofs.«01_k».proof.Proof.Math
public import Idealize.ShloMosaic.Lib.Pointwise
public import Idealize.ShloMosaic.Lib.ReduceAll

@[expose] public section

/-!
# The reference in steps

The reference's result is one composed term. Here it is cut into the steps a reader of the reference would name: the
hidden layer, the rows taken by the edge list, the gate, the accumulation by source node, the output layer and the
log-softmax.
-/

set_option maxRecDepth 16384

noncomputable section

namespace Cert.ReferenceIdeal.Hand

open Cert.ReferenceIdeal Cert.ReferenceIdeal.Gen
open Idealize.ShloMosaic Idealize.ShloMosaic.TcCoe

variable {F : FTy → Type} [FloatOps F]

/-- The edges' source nodes. -/
def srcs (e : IVec S2x160000 32) : IVec S160000 32 :=
  shapeCast S160000 (extractStridedSlice S1x160000 ![0, 0] e slices_S2x160000_S1x160000_0_0) shapeCasts_S1x160000_S160000

/-- The edges' target nodes. -/
def dsts (e : IVec S2x160000 32) : IVec S160000 32 :=
  shapeCast S160000 (extractStridedSlice S1x160000 ![1, 0] e slices_S2x160000_S1x160000_1_0) shapeCasts_S1x160000_S160000

/-- The hidden layer. -/
def hidden (x : FVec F S10000x128 .f32) (adj : FVec F S10000x10000 .f32) (w0 : FVec F S128x128 .f32) (b0 : FVec F S128 .f32) :
    FVec F S10000x128 .f32 :=
  maximumf (addf (Host.dotGeneral dot_S10000x10000_S10000x128_S10000x128_1_0_0_1_n_n none adj
      (Host.dotGeneral dot_S10000x128_S128x128_S10000x128_1_0_0_1_n_n none x w0))
    (broadcastInDim S10000x128 ![0, 1] bcast_S1x128_S10000x128_0_1 (broadcastInDim S1x128 ![1] bcast_S128_S1x128_1 b0)))
    (broadcastInDim S10000x128 ![] bcast_S_S10000x128 (constant S_ .f32 0x00000000#32))

/-- Row numbers as a column, a negative one counted from the end. -/
def wrapped (i : IVec S160000 32) : IVec S160000x1 32 :=
  broadcastInDim S160000x1 ![0] bcast_S160000_S160000x1_0
    (select (cmpi .slt i (broadcastInDim S160000 ![] bcast_S_S160000 (constantI S_ 32 0#32)))
      (addi i (broadcastInDim S160000 ![] bcast_S_S160000 (constantI S_ 32 10000#32))) i)

/-- Whether a row number lies in the table. -/
def inside (i : IVec S160000 32) : IVec S160000 1 :=
  Host.reduce IntOp.andi
    (andi (cmpi .sge (wrapped i) (broadcastInDim S160000x1 ![] bcast_S_S160000x1 (constantI S_ 32 0#32)))
      (cmpi .sle (wrapped i) (broadcastInDim S160000x1 ![0, 1] bcast_S1x1_S160000x1_0_1
        (broadcastInDim S1x1 ![1] bcast_S1_S1x1_1 (constantI S1 32 9999#32)))))
    (constantI S_ 1 1#1) reducesTo_S160000x1_S160000_d1 h_S_

/-- The rows of a table at the given row numbers. -/
def taken (h : FVec F S10000x128 .f32) (i : IVec S160000 32) : FVec F S160000x128 .f32 :=
  select (broadcastInDim S160000x128 ![0] bcast_S160000_S160000x128_0 (inside i))
    (Host.gather gather_S10000x128_S160000x1_S160000x128_1_0_n_n_0_1_1128 h (wrapped i))
    (broadcastInDim S160000x128 ![] bcast_S_S160000x128 (constant S_ .f32 0x7FC00000#32))

/-- The gate of each edge. -/
def gates (hs hd : FVec F S160000x128 .f32) (wm : FVec F S256x128 .f32) : FVec F S160000x128 .f32 :=
  Host.divf (broadcastInDim S160000x128 ![] bcast_S_S160000x128 (constant S_ .f32 0x3F800000#32))
    (addf (broadcastInDim S160000x128 ![] bcast_S_S160000x128 (constant S_ .f32 0x3F800000#32))
      (Host.exp (Host.negf (Host.dotGeneral dot_S160000x256_S256x128_S160000x128_1_0_0_1_n_n none
        (concatenate S160000x256 1 [⟨S160000x128, hs⟩, ⟨S160000x128, hd⟩] concatenates_S160000x128_S160000x128_S160000x256_d1)
        wm))))

/-- The edges' rows added up by source node. -/
def gathered (s : IVec S160000 32) (u : FVec F S160000x128 .f32) : FVec F S10000x128 .f32 :=
  Host.scatterAdd scatter_S10000x128_S160000x1_S160000x128_1_0_0_1
    (broadcastInDim S10000x128 ![] bcast_S_S10000x128 (constant S_ .f32 0x00000000#32))
    (broadcastInDim S160000x1 ![0] bcast_S160000_S160000x1_0 s) u

/-- The mixed features. -/
def mixes (h : FVec F S10000x128 .f32) (e : IVec S2x160000 32) (wm : FVec F S256x128 .f32) : FVec F S10000x128 .f32 :=
  addf (gathered (srcs e) (mulf (gates (taken h (srcs e)) (taken h (dsts e)) wm) (taken h (dsts e)))) h

/-- The output layer. -/
def outs (z : FVec F S10000x128 .f32) (w1 : FVec F S128x16 .f32) (b1 : FVec F S16 .f32) : FVec F S10000x16 .f32 :=
  addf (Host.dotGeneral dot_S10000x128_S128x16_S10000x16_1_0_0_1_n_n none z w1)
    (broadcastInDim S10000x16 ![0, 1] bcast_S1x16_S10000x16_0_1 (broadcastInDim S1x16 ![1] bcast_S16_S1x16_1 b1))

/-- Each row with its greatest entry taken off. -/
def centred (o : FVec F S10000x16 .f32) : FVec F S10000x16 .f32 :=
  subf o (broadcastInDim S10000x16 ![0, 1] bcast_S10000x1_S10000x16_0_1 (broadcastInDim S10000x1 ![0] bcast_S10000_S10000x1_0
    (maximumf (broadcastInDim S10000 ![] bcast_S_S10000 (constant S_ .f32 0xFF800000#32))
      (Host.reduce FloatOps.maximumf o (constant S_ .f32 0xFF800000#32) reducesTo_S10000x16_S10000_d1 h_S_))))

/-- The logarithm of the softmax of each row. -/
def logSoft (o : FVec F S10000x16 .f32) : FVec F S10000x16 .f32 :=
  subf (centred o) (broadcastInDim S10000x16 ![0, 1] bcast_S10000x1_S10000x16_0_1 (Host.log
    (broadcastInDim S10000x1 ![0] bcast_S10000_S10000x1_0
      (Host.reduceAdd (Host.exp (centred o)) (constant S_ .f32 0x00000000#32) reducesTo_S10000x16_S10000_d1 h_S_))))

/-- The reference's result. -/
def result (x : FVec F S10000x128 .f32) (adj : FVec F S10000x10000 .f32) (w0 : FVec F S128x128 .f32) (b0 : FVec F S128 .f32)
    (w1 : FVec F S128x16 .f32) (b1 : FVec F S16 .f32) (wm : FVec F S256x128 .f32) (e : IVec S2x160000 32) :
    FVec F S10000x16 .f32 :=
  logSoft (outs (mixes (hidden x adj w0 b0) e wm) w1 b1)

/-- The reference's composed term is its steps, one after the other. -/
theorem res_eq (m : (ℓ : Idealize.ShloMosaic.Loc nD τ sig) → Buf (Elt F) ℓ) (c : Dev nD) :
    Value.res_main_v29 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) :=
  rfl

end Cert.ReferenceIdeal.Hand
-- ==== Proof.RefValue.lean ====
module

public import proofs.«01_k».proof.Proof.RefBlocks
public import Idealize.ShloMosaic.Lib.Routing.Ops
public import Idealize.ShloMosaic.Lib.Routing.OpsPair

@[expose] public section

/-!
# The reference's steps as real numbers

When the float arguments but the gate's weights hold real numbers and the edges are the ring's, each step of the reference holds real numbers
too: the rows it takes are the node's and its neighbour's, and the accumulation by source node is a sum over the
sixteen neighbours.
-/

set_option maxRecDepth 16384

noncomputable section

namespace Cert.ReferenceIdeal.Hand

open Cert.ReferenceIdeal Cert.ReferenceIdeal.Gen Cert.Math
open Idealize.ShloMosaic

/-- Edge `k` of node `n`. -/
def edge (n : Fin 10000) (k : Fin 16) : Fin 160000 := ⟨n.val * 16 + k.val, by omega⟩

/-- Every edge is some node's. -/
theorem exists_edge (q : Fin 160000) : ∃ n k, q = edge n k :=
  ⟨⟨q.val / 16, by omega⟩, ⟨q.val % 16, by omega⟩, Fin.ext (by simp only [edge]; omega)⟩

/-- A node's number is not negative as a signed word. -/
theorem not_neg (b : Fin 10000) : ¬ IntOp.cmpi .slt (BitVec.ofNat 32 b.val) 0#32 = 1#1 := by
  rw [IntOp.cmpi_slt, toInt_ofNat_small _ (by omega)]
  show ¬ _ < ((0 : ℕ) : ℤ)
  omega

/-- The hidden layer. -/
theorem hidden_val {x adj w0 b0 w1 b1 wm} {N : Net} (R : Reals x adj w0 b0 w1 b1 wm N) (n : Fin 10000) (f : Fin 128) :
    hidden (F := Ideal) x adj w0 b0 (ix2 n f) = (hid N n f : EReal) := by
  unfold hidden
  pointwise []
  have hs : ∀ r, ∑ k, x (ix2 r k) * w0 (ix2 k f) = ((Math.sup N r f : ℝ) : EReal) := fun r =>
    coe_sum_mul _ _ (fun k => R.x r k) (fun k => R.w0 k f)
  rw [coe_sum_mul _ _ (fun k => R.adj n k) hs, R.b0, ← EReal.coe_add, ← EReal.coe_zero, coe_max]
  rfl

/-- Edge `k` of node `n` starts at `n`. -/
theorem srcs_val {e : IVec S2x160000 32} (E : RingEdges e) (n : Fin 10000) (k : Fin 16) :
    srcs e (ix1 (edge n k)) = BitVec.ofNat 32 n.val := by
  unfold srcs
  pointwise []
  exact E.src n k

/-- Edge `k` of node `n` ends at its `k`-th neighbour. -/
theorem dsts_val {e : IVec S2x160000 32} (E : RingEdges e) (n : Fin 10000) (k : Fin 16) :
    dsts e (ix1 (edge n k)) = BitVec.ofNat 32 (nb n k).val := by
  unfold dsts
  pointwise []
  exact E.dst n k

/-- A node's number is not wrapped. -/
theorem wrapped_val (i : IVec S160000 32) (q : Fin 160000) (b : Fin 10000) (h : i (ix1 q) = BitVec.ofNat 32 b.val) :
    wrapped i (ix2 q 0) = BitVec.ofNat 32 b.val := by
  unfold wrapped
  pointwise []
  rw [h]
  exact if_neg (not_neg b)

/-- Where every row number is a node's, all of them lie in the table. -/
theorem inside_val (i : IVec S160000 32) (h : ∀ q, ∃ b : Fin 10000, i (ix1 q) = BitVec.ofNat 32 b.val) (q : Fin 160000) :
    inside i (ix1 q) = 1#1 := by
  unfold inside
  refine Host.reduce_andi_one _ _ _ _ _ rfl fun j => ?_
  obtain ⟨b, hb⟩ := h (j 0)
  have hw := wrapped_val i (j 0) b hb
  have hj : j = ix2 (j 0) 0 := by
    funext a
    match a with
    | ⟨0, _⟩ => rfl
    | ⟨1, _⟩ => exact Fin.ext (Nat.lt_one_iff.1 (j 1).isLt)
  have hw : wrapped i j = BitVec.ofNat 32 b.val := (congrArg (wrapped i) hj).trans hw
  pointwise []
  rw [hw]
  refine IntOp.andi_eq_one.2 ⟨?_, ?_⟩
  · rw [IntOp.cmpi_sge, toInt_ofNat_small b.val (by omega)]
    show ((0 : ℕ) : ℤ) ≤ _
    omega
  · rw [IntOp.cmpi_sle, toInt_ofNat_small _ (by omega)]
    show _ ≤ ((9999 : ℕ) : ℤ)
    omega

/-- A taken row is the table's row. -/
theorem taken_val (t : FVec Ideal S10000x128 .f32) (i : IVec S160000 32)
    (h : ∀ q, ∃ b : Fin 10000, i (ix1 q) = BitVec.ofNat 32 b.val) (q : Fin 160000) (f : Fin 128) (b : Fin 10000)
    (hb : i (ix1 q) = BitVec.ofNat 32 b.val) : taken t i (ix2 q f) = t (ix2 b f) := by
  have hg := Routing.gather_row gather_S10000x128_S160000x1_S160000x128_1_0_n_n_0_1_1128 rfl rfl rfl rfl rfl t (wrapped i) q f b
    (wrapped_val i q b hb) (by decide)
  unfold taken
  pointwise []
  rw [inside_val i h q]
  exact (if_pos rfl).trans hg

/-- The gate of an edge whose two rows are real. -/
theorem gates_val {x adj w0 b0 w1 b1 wm} {N : Net} (R : Reals x adj w0 b0 w1 b1 wm N) (hs hd : FVec Ideal S160000x128 .f32)
    (q : Fin 160000) (n n' : Fin 10000) (h1 : ∀ l, hs (ix2 q l) = (hid N n l : EReal))
    (h2 : ∀ l, hd (ix2 q l) = (hid N n' l : EReal)) (f : Fin 128) :
    gates hs hd wm (ix2 q f) = ((gate (up N n f + low N n' f) : ℝ) : EReal) := by
  unfold gates
  pointwise []
  rw [Finset.sum_congr rfl fun l _ => congrArg₂ (· * ·) (h1 l) (R.wm ⟨l.val, by omega⟩ f),
    Finset.sum_congr rfl fun l _ => congrArg₂ (· * ·) (h2 l) (R.wm ⟨128 + l.val, by omega⟩ f)]
  exact gate_div _

/-- An update lands at the row its row number names and at its own column. -/
theorem lands (idx : IVec S160000x1 32) (q : Fin 160000) (g : Fin 128) (n : Fin 10000) (f : Fin 128) :
    scatter_S10000x128_S160000x1_S160000x128_1_0_0_1.resultIdx? (ix2 q g) idx = some (ix2 n f)
      ↔ (idx (ix2 q 0)).toInt = (n.val : ℤ) ∧ g = f := by
  have w0 : scatter_S10000x128_S160000x1_S160000x128_1_0_0_1.window (ix2 q g) 0 = 0 := rfl
  have w1 : scatter_S10000x128_S160000x1_S160000x128_1_0_0_1.window (ix2 q g) 1 = g.val := rfl
  have s1 : scatter_S10000x128_S160000x1_S160000x128_1_0_0_1.start (ix2 q g) idx 1 = 0 := rfl
  have s0 : scatter_S10000x128_S160000x1_S160000x128_1_0_0_1.start (ix2 q g) idx 0 = (idx (ix2 q 0)).toInt := by
    refine congrArg (fun j => (idx j).toInt) (funext fun a => ?_)
    match a with
    | ⟨0, _⟩ => rfl
    | ⟨1, _⟩ => rfl
  have hr := Routing.resultIdx?_ix2 scatter_S10000x128_S160000x1_S160000x128_1_0_0_1 (ix2 q g) idx n f
  rw [w0, w1, s0, s1] at hr
  refine hr.trans ⟨fun h => ⟨by omega, Fin.ext (by omega)⟩, fun h => ⟨by omega, by rw [h.2]; omega⟩⟩

/-- The accumulation by source node is the sum over the node's sixteen edges. -/
theorem gathered_val (s : IVec S160000 32) (hs : ∀ n k, s (ix1 (edge n k)) = BitVec.ofNat 32 n.val)
    (u : FVec Ideal S160000x128 .f32) (n : Fin 10000) (f : Fin 128) :
    gathered s u (ix2 n f) = ∑ k, u (ix2 (edge n k) f) := by
  have hidx : ∀ q, broadcastInDim S160000x1 ![0] bcast_S160000_S160000x1_0 s (ix2 q 0) = s (ix1 q) := fun q => by
    pointwise []
  have hset : (Finset.univ.filter fun j => scatter_S10000x128_S160000x1_S160000x128_1_0_0_1.resultIdx? j
      (broadcastInDim S160000x1 ![0] bcast_S160000_S160000x1_0 s) = some (ix2 n f))
      = Finset.univ.map ⟨fun k : Fin 16 => (ix2 (edge n k) f : S160000x128.Idx), fun a b h => by
          have h0 := congrArg Fin.val (congrFun h 0)
          change n.val * 16 + a.val = n.val * 16 + b.val at h0
          exact Fin.ext (by omega)⟩ := by
    ext j
    obtain ⟨q, g, rfl⟩ : ∃ (q : Fin 160000) (g : Fin 128), j = ix2 q g := ⟨j 0, j 1, by
      funext a
      match a with
      | ⟨0, _⟩ => rfl
      | ⟨1, _⟩ => rfl⟩
    obtain ⟨n', k', rfl⟩ := exists_edge q
    rw [Finset.mem_filter, Finset.mem_map, lands, hidx, hs, toInt_ofNat_small _ (by omega)]
    constructor
    · rintro ⟨_, h, hf⟩
      have hn : n' = n := Fin.ext (by omega)
      exact ⟨k', Finset.mem_univ _, by rw [hn, hf]; rfl⟩
    · rintro ⟨k, _, h⟩
      have h0 := congrArg Fin.val (congrFun h 0)
      change n.val * 16 + k.val = n'.val * 16 + k'.val at h0
      exact ⟨Finset.mem_univ _, by omega, (congrFun h 1).symm⟩
  unfold gathered Host.scatterAdd
  rw [Ideal.hostScatterAdd_def]
  unfold Ideal.hostScatterAdd
  rw [hset, Finset.sum_map]
  pointwise []
  rfl

/-- The mixed features. -/
theorem mixes_val {x adj w0 b0 w1 b1 wm e} {N : Net} (R : Reals x adj w0 b0 w1 b1 wm N) (E : RingEdges e) (n : Fin 10000)
    (f : Fin 128) : mixes (F := Ideal) (hidden x adj w0 b0) e wm (ix2 n f) = (mix N n f : EReal) := by
  have hS : ∀ q, ∃ b : Fin 10000, srcs e (ix1 q) = BitVec.ofNat 32 b.val := fun q => by
    obtain ⟨n, k, rfl⟩ := exists_edge q
    exact ⟨n, srcs_val E n k⟩
  have hD : ∀ q, ∃ b : Fin 10000, dsts e (ix1 q) = BitVec.ofNat 32 b.val := fun q => by
    obtain ⟨n, k, rfl⟩ := exists_edge q
    exact ⟨nb n k, dsts_val E n k⟩
  have t1 : ∀ k l, taken (F := Ideal) (hidden x adj w0 b0) (srcs e) (ix2 (edge n k) l) = (hid N n l : EReal) := fun k l =>
    (taken_val _ _ hS _ l n (srcs_val E n k)).trans (hidden_val R n l)
  have t2 : ∀ k l, taken (F := Ideal) (hidden x adj w0 b0) (dsts e) (ix2 (edge n k) l) = (hid N (nb n k) l : EReal) :=
    fun k l => (taken_val _ _ hD _ l (nb n k) (dsts_val E n k)).trans (hidden_val R (nb n k) l)
  unfold mixes
  pointwise []
  rw [gathered_val _ (srcs_val E), hidden_val R]
  unfold mix
  rw [EReal.coe_add, ← coe_sum]
  have hm : ∀ k, mulf (gates (taken (hidden x adj w0 b0) (srcs e)) (taken (hidden x adj w0 b0) (dsts e)) wm)
      (taken (hidden x adj w0 b0) (dsts e)) (ix2 (edge n k) f)
      = ((gate (up N n f + low N (nb n k) f) * hid N (nb n k) f : ℝ) : EReal) := fun k => by
    refine (congrArg₂ (· * ·) (gates_val R _ _ (edge n k) n (nb n k) (t1 k) (t2 k) f) (t2 k f)).trans ?_
    exact (EReal.coe_mul _ _).symm
  rw [Finset.sum_congr rfl fun k _ => hm k]

/-- A row of real numbers with its greatest entry taken off. -/
theorem centred_val (o : FVec Ideal S10000x16 .f32) (n : Fin 10000) (g : Fin 16 → ℝ) (ho : ∀ c, o (ix2 n c) = (g c : EReal))
    (c : Fin 16) : centred o (ix2 n c) = ((g c - top g : ℝ) : EReal) := by
  unfold centred
  pointwise []
  rw [ofBits_neg_inf, fold_max g ho, ho, max_eq_right bot_le, ← EReal.coe_sub]

/-- The logarithm of the softmax of a row of real numbers. -/
theorem logSoft_val (o : FVec Ideal S10000x16 .f32) (n : Fin 10000) (g : Fin 16 → ℝ) (ho : ∀ c, o (ix2 n c) = (g c : EReal))
    (c : Fin 16) : logSoft o (ix2 n c) = (lsm g c : EReal) := by
  unfold logSoft
  pointwise []
  have hs : ∑ k, Ideal.exp (centred o (ix2 n k)) = ((∑ k, Real.exp (g k - top g) : ℝ) : EReal) := by
    rw [← coe_sum]
    exact Finset.sum_congr rfl fun k _ => by rw [centred_val o n g ho, Ideal.exp_coe]
  rw [hs, Ideal.log_coe, if_neg (not_le.2 (den_pos g (top g))), centred_val o n g ho, ← EReal.coe_sub]
  rfl

/-- The reference's result. -/
theorem result_val {x adj w0 b0 w1 b1 wm e} {N : Net} (R : Reals x adj w0 b0 w1 b1 wm N) (E : RingEdges e) (n : Fin 10000)
    (c : Fin 16) : result (F := Ideal) x adj w0 b0 w1 b1 wm e (ix2 n c) = (out N n c : EReal) := by
  unfold result
  refine logSoft_val _ n (logit N n) (fun c => ?_) c
  unfold outs
  pointwise []
  rw [coe_sum_mul _ _ (fun f => mixes_val R E n f) (fun f => R.w1 f c), R.b1, ← EReal.coe_add]
  rfl

end Cert.ReferenceIdeal.Hand
-- ==== Proof.Agree.lean ====
module

public import proofs.«01_k».proof.Proof.KernelArgs
public import proofs.«01_k».proof.Proof.PreFacts
public import proofs.«01_k».proof.Proof.RefValue
public import proofs.«01_k».proof.Proof.Gen.ReferenceIdeal.Run
public import Idealize.ShloMosaic.Lib.Quiescent

@[expose] public section

/-!
# Both programs compute the same array

Under the precondition the kernel's result array and the reference's are, entry by entry, the real number `out N n c` of
`Math`. The two programs' runs are put in the form the claims ask for.
-/

set_option maxRecDepth 16384

noncomputable section

namespace Cert.KernelIdeal.Hand

open Cert.KernelIdeal Cert.KernelIdeal.Gen Cert.Math
open Idealize.ShloMosaic Idealize.ShloMosaic.TcCoe Idealize.SL.Sem

variable (m : (ℓ : Loc nD τ sig) → Buf (Elt Ideal) ℓ) (ρ : Dev nD → PrngReg)

/-- The real numbers core `c`'s arguments hold. -/
def net (c : Dev nD) : Net :=
  netOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The array both programs end with on core `c`. -/
def answer (c : Dev nD) : Vec Ideal S10000x16 .f32 := fun j => ((out (net m c) (j 0) (j 1) : ℝ) : EReal)

/-- The precondition at core `c`. -/
def Good (c : Dev nD) : Prop :=
  Cert.Pre_regular_and_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    = fun _ => 1#1

/-- Where every entry of an array of the result's shape is known, so is the array. -/
theorem ext_result {X Y : Vec Ideal S10000x16 .f32} (h : ∀ (n : Fin 10000) (f : Fin 16), X (ix2 n f) = Y (ix2 n f)) : X = Y := by
  funext j
  have hj : j = ix2 (j 0) (j 1) := by
    funext a
    match a with
    | ⟨0, _⟩ => rfl
    | ⟨1, _⟩ => rfl
  exact (congrArg X hj).trans ((h (j 0) (j 1)).trans (congrArg Y hj).symm)

/-- The kernel's run: its result is `answer`, and its arguments are unchanged. -/
theorem value_main (hp : ∀ c, Good m c) :
    θ_run defs (onTc (τ := τ) (main (F := Ideal))) ⟨m, fun _ => 0, ρ⟩ (fun r => ∀ c : Dev nD,
      r.2.mem ((c.tc : Thread nD τ).loc main_v4) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨ext_result fun n f =>
    (result_of m h.1 c n f).trans (outX_val (holds_ins m c (Cert.Pre_regular_and_finite.Hand.read _ _ _ _ _ _ _ _ (hp c)).1) n f),
    args_of m h.1 c⟩) (run_main m ρ)

end Cert.KernelIdeal.Hand

namespace Cert.ReferenceIdeal.Hand

open Cert.ReferenceIdeal Cert.ReferenceIdeal.Gen Cert.Math
open Idealize.ShloMosaic Idealize.ShloMosaic.TcCoe Idealize.SL.Sem

variable (m : (ℓ : Loc nD τ sig) → Buf (Elt Ideal) ℓ) (ρ : Dev nD → PrngReg)

/-- The reference's run leaves its arguments unchanged, and it has no semaphores. -/
theorem frame_main :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, sem_eq_zero_of_no_sems (by decide) r.2⟩) (Value.run m ρ)

/-- The reference's result where its arguments are real and the edges are the ring's. -/
theorem value_eq (c : Dev nD) {x adj w0 b0 w1 b1 wm e} (h0 : m ((c : Thread nD τ).loc main_arg0) = x)
    (h1 : m ((c : Thread nD τ).loc main_arg1) = adj) (h2 : m ((c : Thread nD τ).loc main_arg2) = w0)
    (h3 : m ((c : Thread nD τ).loc main_arg3) = b0) (h4 : m ((c : Thread nD τ).loc main_arg4) = w1)
    (h5 : m ((c : Thread nD τ).loc main_arg5) = b1) (h6 : m ((c : Thread nD τ).loc main_arg6) = wm)
    (h7 : m ((c : Thread nD τ).loc main_arg7) = e) {N : Net} (R : Reals x adj w0 b0 w1 b1 wm N) (E : RingEdges e)
    (n : Fin 10000) (f : Fin 16) :
    (Value.res_main_v29 m c : Vec Ideal S10000x16 .f32) (ix2 n f) = ((out N n f : ℝ) : EReal) := by
  subst h0 h1 h2 h3 h4 h5 h6 h7
  exact (congrFun (res_eq m c) _).trans (result_val R E n f)

end Cert.ReferenceIdeal.Hand

end
-- ==== Proof.lean ====
/-
  The proof of `Cert.Claim`: the frames of the kernel, of the idealized kernel and of the idealized reference; that the
  idealized kernel is the kernel's idealization; and that the idealized kernel and the idealized reference end with the
  same array under the precondition. The modules under Proof/ hold the parts; here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Agree
public import proofs.«01_k».proof.Proof.KernelRun
public import proofs.«01_k».proof.Proof.Gen.Pre_regular_and_finite
public import Idealize.ShloMosaic.Adequacy
public import Idealize.ShloMosaic.Init

@[expose] public section

noncomputable section

namespace Cert.Proof

open Idealize.ShloMosaic Idealize.SL.Sem Cert.Kernel

/-- The kernel and the reference end with the same array wherever the precondition holds. -/
theorem agree : @algebraic_KernelIdeal_ReferenceIdeal_pre_regular_and_finite Cert.KernelIdeal.Gen.facts
    Cert.ReferenceIdeal.Gen.facts Cert.Pre_regular_and_finite.Gen.facts := fun m g m' g' hp hm =>
  ⟨Cert.KernelIdeal.Hand.answer m, Cert.KernelIdeal.Hand.value_main m g hp,
    (θ_run _ _ _).mono (fun _ h c => ⟨(h c).1.trans (Cert.KernelIdeal.Hand.ext_result fun n f =>
      have E := Cert.Pre_regular_and_finite.Hand.read _ _ _ _ _ _ _ _ (hp c)
      have ⟨h0, h1, h2, h3, h4, h5, h6, h7⟩ := hm c
      Cert.ReferenceIdeal.Hand.value_eq m' c h0 h1 h2 h3 h4 h5 h6 h7 E.1 E.2 n f), (h c).2⟩)
      (Cert.ReferenceIdeal.Value.run m' g')⟩

/-- Every claim. -/
theorem claim : Cert.Claim :=
  ⟨Cert.Kernel.Gen.facts, Cert.KernelIdeal.Gen.facts, Cert.ReferenceIdeal.Gen.facts, Cert.Pre_regular_and_finite.Gen.facts,
    fun m g _ => Cert.Kernel.Hand.frame_main (F := Bits) m g,
    fun m g _ => Cert.KernelIdeal.Hand.frame_main (F := Ideal) m g,
    fun m g _ => Cert.KernelIdeal.Hand.frame_main (F := Ideal) m g,
    fun m g _ => Cert.ReferenceIdeal.Hand.frame_main m g,
    fun m g _ => Cert.ReferenceIdeal.Hand.frame_main m g,
    trivial,
    agree⟩

end Cert.Proof

end
